-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def preserves_Kernel_KernelIdeal : Prop :=
  IdealRules.bf16_pair.BufferStatement Cert.KernelIdeal.S80x2x960x2x128 Cert.KernelIdeal.S80x2x960x1x128
  ∧ IdealRules.bf16_pair.BufferStatement Cert.KernelIdeal.S80x2x16x2x128 Cert.KernelIdeal.S80x2x16x1x128
  ∧ IdealRules.bf16_pair.Statement Cert.KernelIdeal.S128x128 Cert.KernelIdeal.S64x128
  ∧ IdealRules.bf16_pair.Statement Cert.KernelIdeal.S8x1x8x2x128 Cert.KernelIdeal.S8x1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Conv_ConvIdeal : Prop :=
  True

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ preserves_Kernel_KernelIdeal
    ∧ algebraic_KernelIdeal_ReferenceIdeal (hKernelIdeal := hKernelIdeal) (hReferenceIdeal := hReferenceIdeal)
    ∧ preserves_Conv_ConvIdeal
-- ==== Kernel.lean ====
abbrev S2x15360x1280 : Shape := ⟨3, ![2, 15360, 1280]⟩
abbrev S1280x3840 : Shape := ⟨2, ![1280, 3840]⟩
abbrev S3840 : Shape := ⟨1, ![3840]⟩
abbrev S1280 : Shape := ⟨1, ![1280]⟩
abbrev S30720x1280 : Shape := ⟨2, ![30720, 1280]⟩
abbrev S1280x1280 : Shape := ⟨2, ![1280, 1280]⟩
abbrev S1x1280 : Shape := ⟨2, ![1, 1280]⟩
abbrev S1280x1 : Shape := ⟨2, ![1280, 1]⟩
abbrev S1280x128 : Shape := ⟨2, ![1280, 128]⟩
abbrev S60x4x128 : Shape := ⟨3, ![60, 4, 128]⟩
abbrev S60x4x1280 : Shape := ⟨3, ![60, 4, 1280]⟩
abbrev S80x2x960x128 : Shape := ⟨4, ![80, 2, 960, 128]⟩
abbrev S120x2x1280x128 : Shape := ⟨4, ![120, 2, 1280, 128]⟩
abbrev S512x1280 : Shape := ⟨2, ![512, 1280]⟩
abbrev S1x4x128 : Shape := ⟨3, ![1, 4, 128]⟩
abbrev S1x4x1280 : Shape := ⟨3, ![1, 4, 1280]⟩
abbrev S80x2x16x128 : Shape := ⟨4, ![80, 2, 16, 128]⟩
abbrev S2x2x1280x128 : Shape := ⟨4, ![2, 2, 1280, 128]⟩
abbrev S512 : Shape := ⟨1, ![512]⟩
abbrev S512x1 : Shape := ⟨2, ![512, 1]⟩
abbrev S1x252 : Shape := ⟨2, ![1, 252]⟩
abbrev S512x252 : Shape := ⟨2, ![512, 252]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S1280x256 : Shape := ⟨2, ![1280, 256]⟩
abbrev S512x256 : Shape := ⟨2, ![512, 256]⟩
abbrev S1x256 : Shape := ⟨2, ![1, 256]⟩
abbrev S128x256 : Shape := ⟨2, ![128, 256]⟩
abbrev S256 : Shape := ⟨1, ![256]⟩
abbrev S252x1 : Shape := ⟨2, ![252, 1]⟩
abbrev S252x256 : Shape := ⟨2, ![252, 256]⟩
abbrev S1x1x256 : Shape := ⟨3, ![1, 1, 256]⟩
abbrev S64x128 : Shape := ⟨2, ![64, 128]⟩
abbrev S8x8x128 : Shape := ⟨3, ![8, 8, 128]⟩
abbrev S8x1x8x128 : Shape := ⟨4, ![8, 1, 8, 128]⟩
abbrev S256x1280 : Shape := ⟨2, ![256, 1280]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 23
  | .vmem => 20
  | .smem => 0
  | _ => 0

abbrev bufTy : (tb : Table) → Fin (tcTables nBuf tb) → BufTy
  | .hbm, ⟨0, _⟩ => ⟨S2x15360x1280, .bf16⟩
  | .hbm, ⟨1, _⟩ => ⟨S1280x3840, .fp8e4m3⟩
  | .hbm, ⟨2, _⟩ => ⟨S3840, .f32⟩
  | .hbm, ⟨3, _⟩ => ⟨S1280, .f32⟩
  | .hbm, ⟨4, _⟩ => ⟨S30720x1280, .bf16⟩
  | .hbm, ⟨5, _⟩ => ⟨S1280x1280, .fp8e4m3⟩
  | .hbm, ⟨6, _⟩ => ⟨S1280x1280, .fp8e4m3⟩
  | .hbm, ⟨7, _⟩ => ⟨S1280x1280, .fp8e4m3⟩
  | .hbm, ⟨8, _⟩ => ⟨S1280x1280, .fp8e4m3⟩
  | .hbm, ⟨9, _⟩ => ⟨S1280, .f32⟩
  | .hbm, ⟨10, _⟩ => ⟨S1x1280, .f32⟩
  | .hbm, ⟨11, _⟩ => ⟨S1280, .f32⟩
  | .hbm, ⟨12, _⟩ => ⟨S1x1280, .f32⟩
  | .hbm, ⟨13, _⟩ => ⟨S1280, .f32⟩
  | .hbm, ⟨14, _⟩ => ⟨S1280, .f32⟩
  | .hbm, ⟨15, _⟩ => ⟨S1280x1, .f32⟩
  | .hbm, ⟨16, _⟩ => ⟨S1280x128, .f32⟩
  | .hbm, ⟨17, _⟩ => ⟨S30720x1280, .fp8e4m3⟩
  | .hbm, ⟨18, _⟩ => ⟨S60x4x128, .f32⟩
  | .hbm, ⟨19, _⟩ => ⟨S30720x1280, .fp8e4m3⟩
  | .hbm, ⟨20, _⟩ => ⟨S60x4x1280, .f32⟩
  | .hbm, ⟨21, _⟩ => ⟨S80x2x960x128, .i32⟩
  | .hbm, ⟨22, _⟩ => ⟨S120x2x1280x128, .f32⟩
  | .local _ .vmem, ⟨0, _⟩ => ⟨S512x1280, .bf16⟩
  | .local _ .vmem, ⟨1, _⟩ => ⟨S512x1280, .bf16⟩
  | .local _ .vmem, ⟨2, _⟩ => ⟨S1280x1280, .fp8e4m3⟩
  | .local _ .vmem, ⟨3, _⟩ => ⟨S1280x1280, .fp8e4m3⟩
  | .local _ .vmem, ⟨4, _⟩ => ⟨S1280x1280, .fp8e4m3⟩
  | .local _ .vmem, ⟨5, _⟩ => ⟨S1x1280, .f32⟩
  | .local _ .vmem, ⟨6, _⟩ => ⟨S1x1280, .f32⟩
  | .local _ .vmem, ⟨7, _⟩ => ⟨S1280x128, .f32⟩
  | .local _ .vmem, ⟨8, _⟩ => ⟨S512x1280, .fp8e4m3⟩
  | .local _ .vmem, ⟨9, _⟩ => ⟨S512x1280, .fp8e4m3⟩
  | .local _ .vmem, ⟨10, _⟩ => ⟨S1x4x128, .f32⟩
  | .local _ .vmem, ⟨11, _⟩ => ⟨S1x4x128, .f32⟩
  | .local _ .vmem, ⟨12, _⟩ => ⟨S512x1280, .fp8e4m3⟩
  | .local _ .vmem, ⟨13, _⟩ => ⟨S512x1280, .fp8e4m3⟩
  | .local _ .vmem, ⟨14, _⟩ => ⟨S1x4x1280, .f32⟩
  | .local _ .vmem, ⟨15, _⟩ => ⟨S1x4x1280, .f32⟩
  | .local _ .vmem, ⟨16, _⟩ => ⟨S80x2x16x128, .i32⟩
  | .local _ .vmem, ⟨17, _⟩ => ⟨S80x2x16x128, .i32⟩
  | .local _ .vmem, ⟨18, _⟩ => ⟨S2x2x1280x128, .f32⟩
  | .local _ .vmem, ⟨19, _⟩ => ⟨S2x2x1280x128, .f32⟩
  | _, _ => ⟨S2x15360x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v13_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [BitOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S80x2x16x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2x1280x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
abbrev S2x15360x1280 : Shape := ⟨3, ![2, 15360, 1280]⟩
abbrev S1280x3840 : Shape := ⟨2, ![1280, 3840]⟩
abbrev S3840 : Shape := ⟨1, ![3840]⟩
abbrev S1280 : Shape := ⟨1, ![1280]⟩
abbrev S30720x1280 : Shape := ⟨2, ![30720, 1280]⟩
abbrev S1280x1280 : Shape := ⟨2, ![1280, 1280]⟩
abbrev S1x1280 : Shape := ⟨2, ![1, 1280]⟩
abbrev S1280x1 : Shape := ⟨2, ![1280, 1]⟩
abbrev S1280x128 : Shape := ⟨2, ![1280, 128]⟩
abbrev S60x4x128 : Shape := ⟨3, ![60, 4, 128]⟩
abbrev S60x4x1280 : Shape := ⟨3, ![60, 4, 1280]⟩
abbrev S80x2x960x2x128 : Shape := ⟨5, ![80, 2, 960, 2, 128]⟩
abbrev S120x2x1280x128 : Shape := ⟨4, ![120, 2, 1280, 128]⟩
abbrev S80x2x960x1x128 : Shape := ⟨5, ![80, 2, 960, 1, 128]⟩
abbrev S80x2x960x128 : Shape := ⟨4, ![80, 2, 960, 128]⟩
abbrev S512x1280 : Shape := ⟨2, ![512, 1280]⟩
abbrev S1x4x128 : Shape := ⟨3, ![1, 4, 128]⟩
abbrev S1x4x1280 : Shape := ⟨3, ![1, 4, 1280]⟩
abbrev S80x2x16x128 : Shape := ⟨4, ![80, 2, 16, 128]⟩
abbrev S80x2x16x2x128 : Shape := ⟨5, ![80, 2, 16, 2, 128]⟩
abbrev S80x2x16x1x128 : Shape := ⟨5, ![80, 2, 16, 1, 128]⟩
abbrev S2x2x1280x128 : Shape := ⟨4, ![2, 2, 1280, 128]⟩
abbrev S512 : Shape := ⟨1, ![512]⟩
abbrev S512x1 : Shape := ⟨2, ![512, 1]⟩
abbrev S1x252 : Shape := ⟨2, ![1, 252]⟩
abbrev S512x252 : Shape := ⟨2, ![512, 252]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S1280x256 : Shape := ⟨2, ![1280, 256]⟩
abbrev S512x256 : Shape := ⟨2, ![512, 256]⟩
abbrev S1x256 : Shape := ⟨2, ![1, 256]⟩
abbrev S128x256 : Shape := ⟨2, ![128, 256]⟩
abbrev S256 : Shape := ⟨1, ![256]⟩
abbrev S252x1 : Shape := ⟨2, ![252, 1]⟩
abbrev S252x256 : Shape := ⟨2, ![252, 256]⟩
abbrev S1x1x256 : Shape := ⟨3, ![1, 1, 256]⟩
abbrev S64x128 : Shape := ⟨2, ![64, 128]⟩
abbrev S8x8x128 : Shape := ⟨3, ![8, 8, 128]⟩
abbrev S8x1x8x128 : Shape := ⟨4, ![8, 1, 8, 128]⟩
abbrev S8x1x8x2x128 : Shape := ⟨5, ![8, 1, 8, 2, 128]⟩
abbrev S8x1x8x1x128 : Shape := ⟨5, ![8, 1, 8, 1, 128]⟩
abbrev S256x1280 : Shape := ⟨2, ![256, 1280]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 23
  | .vmem => 20
  | .smem => 0
  | _ => 0

abbrev bufTy : (tb : Table) → Fin (tcTables nBuf tb) → BufTy
  | .hbm, ⟨0, _⟩ => ⟨S2x15360x1280, .bf16⟩
  | .hbm, ⟨1, _⟩ => ⟨S1280x3840, .fp8e4m3⟩
  | .hbm, ⟨2, _⟩ => ⟨S3840, .f32⟩
  | .hbm, ⟨3, _⟩ => ⟨S1280, .f32⟩
  | .hbm, ⟨4, _⟩ => ⟨S30720x1280, .bf16⟩
  | .hbm, ⟨5, _⟩ => ⟨S1280x1280, .fp8e4m3⟩
  | .hbm, ⟨6, _⟩ => ⟨S1280x1280, .fp8e4m3⟩
  | .hbm, ⟨7, _⟩ => ⟨S1280x1280, .fp8e4m3⟩
  | .hbm, ⟨8, _⟩ => ⟨S1280x1280, .fp8e4m3⟩
  | .hbm, ⟨9, _⟩ => ⟨S1280, .f32⟩
  | .hbm, ⟨10, _⟩ => ⟨S1x1280, .f32⟩
  | .hbm, ⟨11, _⟩ => ⟨S1280, .f32⟩
  | .hbm, ⟨12, _⟩ => ⟨S1x1280, .f32⟩
  | .hbm, ⟨13, _⟩ => ⟨S1280, .f32⟩
  | .hbm, ⟨14, _⟩ => ⟨S1280, .f32⟩
  | .hbm, ⟨15, _⟩ => ⟨S1280x1, .f32⟩
  | .hbm, ⟨16, _⟩ => ⟨S1280x128, .f32⟩
  | .hbm, ⟨17, _⟩ => ⟨S30720x1280, .fp8e4m3⟩
  | .hbm, ⟨18, _⟩ => ⟨S60x4x128, .f32⟩
  | .hbm, ⟨19, _⟩ => ⟨S30720x1280, .fp8e4m3⟩
  | .hbm, ⟨20, _⟩ => ⟨S60x4x1280, .f32⟩
  | .hbm, ⟨21, _⟩ => ⟨S80x2x960x2x128, .bf16⟩
  | .hbm, ⟨22, _⟩ => ⟨S120x2x1280x128, .f32⟩
  | .local _ .vmem, ⟨0, _⟩ => ⟨S512x1280, .bf16⟩
  | .local _ .vmem, ⟨1, _⟩ => ⟨S512x1280, .bf16⟩
  | .local _ .vmem, ⟨2, _⟩ => ⟨S1280x1280, .fp8e4m3⟩
  | .local _ .vmem, ⟨3, _⟩ => ⟨S1280x1280, .fp8e4m3⟩
  | .local _ .vmem, ⟨4, _⟩ => ⟨S1280x1280, .fp8e4m3⟩
  | .local _ .vmem, ⟨5, _⟩ => ⟨S1x1280, .f32⟩
  | .local _ .vmem, ⟨6, _⟩ => ⟨S1x1280, .f32⟩
  | .local _ .vmem, ⟨7, _⟩ => ⟨S1280x128, .f32⟩
  | .local _ .vmem, ⟨8, _⟩ => ⟨S512x1280, .fp8e4m3⟩
  | .local _ .vmem, ⟨9, _⟩ => ⟨S512x1280, .fp8e4m3⟩
  | .local _ .vmem, ⟨10, _⟩ => ⟨S1x4x128, .f32⟩
  | .local _ .vmem, ⟨11, _⟩ => ⟨S1x4x128, .f32⟩
  | .local _ .vmem, ⟨12, _⟩ => ⟨S512x1280, .fp8e4m3⟩
  | .local _ .vmem, ⟨13, _⟩ => ⟨S512x1280, .fp8e4m3⟩
  | .local _ .vmem, ⟨14, _⟩ => ⟨S1x4x1280, .f32⟩
  | .local _ .vmem, ⟨15, _⟩ => ⟨S1x4x1280, .f32⟩
  | .local _ .vmem, ⟨16, _⟩ => ⟨S80x2x16x2x128, .bf16⟩
  | .local _ .vmem, ⟨17, _⟩ => ⟨S80x2x16x2x128, .bf16⟩
  | .local _ .vmem, ⟨18, _⟩ => ⟨S2x2x1280x128, .f32⟩
  | .local _ .vmem, ⟨19, _⟩ => ⟨S2x2x1280x128, .f32⟩
  | _, _ => ⟨S2x15360x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v13_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, 0, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S80x2x16x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2x1280x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x15360x1280 : Shape := ⟨3, ![2, 15360, 1280]⟩
abbrev S1280x3840 : Shape := ⟨2, ![1280, 3840]⟩
abbrev S3840 : Shape := ⟨1, ![3840]⟩
abbrev S1280 : Shape := ⟨1, ![1280]⟩
abbrev S30720x1280 : Shape := ⟨2, ![30720, 1280]⟩
abbrev S1x3840 : Shape := ⟨2, ![1, 3840]⟩
abbrev S1x1280 : Shape := ⟨2, ![1, 1280]⟩
abbrev S60x4x128 : Shape := ⟨3, ![60, 4, 128]⟩
abbrev S60x4x1280 : Shape := ⟨3, ![60, 4, 1280]⟩
abbrev S120x2x1280x128 : Shape := ⟨4, ![120, 2, 1280, 128]⟩
abbrev S30720 : Shape := ⟨1, ![30720]⟩
abbrev S30720x1 : Shape := ⟨2, ![30720, 1]⟩
abbrev S30720x3840 : Shape := ⟨2, ![30720, 3840]⟩
abbrev S240x128x1280 : Shape := ⟨3, ![240, 128, 1280]⟩
abbrev S240x1280 : Shape := ⟨2, ![240, 1280]⟩
abbrev S240x1x1280 : Shape := ⟨3, ![240, 1, 1280]⟩
abbrev S120x2x128x1280 : Shape := ⟨4, ![120, 2, 128, 1280]⟩

abbrev nBuf : Space → Nat
  | .hbm => 12
  | .vmem => 9
  | .smem => 0
  | _ => 0

abbrev bufTy : (tb : Table) → Fin (tcTables nBuf tb) → BufTy
  | .hbm, ⟨0, _⟩ => ⟨S2x15360x1280, .bf16⟩
  | .hbm, ⟨1, _⟩ => ⟨S1280x3840, .fp8e4m3⟩
  | .hbm, ⟨2, _⟩ => ⟨S3840, .f32⟩
  | .hbm, ⟨3, _⟩ => ⟨S1280, .f32⟩
  | .hbm, ⟨4, _⟩ => ⟨S30720x1280, .bf16⟩
  | .hbm, ⟨5, _⟩ => ⟨S1x3840, .f32⟩
  | .hbm, ⟨6, _⟩ => ⟨S1x1280, .f32⟩
  | .hbm, ⟨7, _⟩ => ⟨S30720x1280, .fp8e4m3⟩
  | .hbm, ⟨8, _⟩ => ⟨S60x4x128, .f32⟩
  | .hbm, ⟨9, _⟩ => ⟨S30720x1280, .fp8e4m3⟩
  | .hbm, ⟨10, _⟩ => ⟨S60x4x1280, .f32⟩
  | .hbm, ⟨11, _⟩ => ⟨S120x2x1280x128, .f32⟩
  | .local _ .vmem, ⟨0, _⟩ => ⟨S30720x1280, .bf16⟩
  | .local _ .vmem, ⟨1, _⟩ => ⟨S1280x3840, .fp8e4m3⟩
  | .local _ .vmem, ⟨2, _⟩ => ⟨S1x3840, .f32⟩
  | .local _ .vmem, ⟨3, _⟩ => ⟨S1x1280, .f32⟩
  | .local _ .vmem, ⟨4, _⟩ => ⟨S30720x1280, .fp8e4m3⟩
  | .local _ .vmem, ⟨5, _⟩ => ⟨S60x4x128, .f32⟩
  | .local _ .vmem, ⟨6, _⟩ => ⟨S30720x1280, .fp8e4m3⟩
  | .local _ .vmem, ⟨7, _⟩ => ⟨S60x4x1280, .f32⟩
  | .local _ .vmem, ⟨8, _⟩ => ⟨S120x2x1280x128, .f32⟩
  | _, _ => ⟨S2x15360x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S30720x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30720x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S30720x1280 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S60x4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S120x2x1280x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Conv.lean ====
abbrev S80x2x960x128 : Shape := ⟨4, ![80, 2, 960, 128]⟩
abbrev S1024x1280 : Shape := ⟨2, ![1024, 1280]⟩
abbrev S120x2x1280x128 : Shape := ⟨4, ![120, 2, 1280, 128]⟩
abbrev S1280x1024 : Shape := ⟨2, ![1280, 1024]⟩
abbrev S_ : Shape := ⟨0, ![]⟩
abbrev S1280x1152 : Shape := ⟨2, ![1280, 1152]⟩
abbrev S1280x1153 : Shape := ⟨2, ![1280, 1153]⟩
abbrev S1280x1154 : Shape := ⟨2, ![1280, 1154]⟩
abbrev S1280x1155 : Shape := ⟨2, ![1280, 1155]⟩
abbrev S1280x9x128 : Shape := ⟨3, ![1280, 9, 128]⟩
abbrev S9x1280x128 : Shape := ⟨3, ![9, 1280, 128]⟩
abbrev S30720x1280 : Shape := ⟨2, ![30720, 1280]⟩
abbrev S1x2x960x128 : Shape := ⟨4, ![1, 2, 960, 128]⟩
abbrev S9x16x128 : Shape := ⟨3, ![9, 16, 128]⟩
abbrev S15x2x128x128 : Shape := ⟨4, ![15, 2, 128, 128]⟩
abbrev S3840x128 : Shape := ⟨2, ![3840, 128]⟩
abbrev S2x31200x128 : Shape := ⟨3, ![2, 31200, 128]⟩
abbrev S2x152x256 : Shape := ⟨3, ![2, 152, 256]⟩
abbrev S2x352x128 : Shape := ⟨3, ![2, 352, 128]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩
abbrev S1x1x8x128 : Shape := ⟨4, ![1, 1, 8, 128]⟩
abbrev S1x120x256 : Shape := ⟨3, ![1, 120, 256]⟩
abbrev S120x256 : Shape := ⟨2, ![120, 256]⟩
abbrev S1x64x128 : Shape := ⟨3, ![1, 64, 128]⟩
abbrev S64x128 : Shape := ⟨2, ![64, 128]⟩
abbrev S256x128 : Shape := ⟨2, ![256, 128]⟩
abbrev S256x256 : Shape := ⟨2, ![256, 256]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 36
  | .vmem => 11
  | .smem => 0
  | _ => 0

abbrev bufTy : (tb : Table) → Fin (tcTables nBuf tb) → BufTy
  | .hbm, ⟨0, _⟩ => ⟨S80x2x960x128, .i32⟩
  | .hbm, ⟨1, _⟩ => ⟨S1024x1280, .i8⟩
  | .hbm, ⟨2, _⟩ => ⟨S120x2x1280x128, .f32⟩
  | .hbm, ⟨3, _⟩ => ⟨S1280x1024, .i8⟩
  | .hbm, ⟨4, _⟩ => ⟨S1280x1024, .i32⟩
  | .hbm, ⟨5, _⟩ => ⟨S_, .i32⟩
  | .hbm, ⟨6, _⟩ => ⟨S_, .i32⟩
  | .hbm, ⟨7, _⟩ => ⟨S1280x1152, .i32⟩
  | .hbm, ⟨8, _⟩ => ⟨S_, .i32⟩
  | .hbm, ⟨9, _⟩ => ⟨S_, .i32⟩
  | .hbm, ⟨10, _⟩ => ⟨S1280x1153, .i32⟩
  | .hbm, ⟨11, _⟩ => ⟨S1280x1152, .i32⟩
  | .hbm, ⟨12, _⟩ => ⟨S_, .i32⟩
  | .hbm, ⟨13, _⟩ => ⟨S1280x1152, .i32⟩
  | .hbm, ⟨14, _⟩ => ⟨S1280x1152, .i32⟩
  | .hbm, ⟨15, _⟩ => ⟨S1280x1152, .i32⟩
  | .hbm, ⟨16, _⟩ => ⟨S_, .i32⟩
  | .hbm, ⟨17, _⟩ => ⟨S_, .i32⟩
  | .hbm, ⟨18, _⟩ => ⟨S1280x1154, .i32⟩
  | .hbm, ⟨19, _⟩ => ⟨S1280x1152, .i32⟩
  | .hbm, ⟨20, _⟩ => ⟨S_, .i32⟩
  | .hbm, ⟨21, _⟩ => ⟨S1280x1152, .i32⟩
  | .hbm, ⟨22, _⟩ => ⟨S1280x1152, .i32⟩
  | .hbm, ⟨23, _⟩ => ⟨S1280x1152, .i32⟩
  | .hbm, ⟨24, _⟩ => ⟨S_, .i32⟩
  | .hbm, ⟨25, _⟩ => ⟨S_, .i32⟩
  | .hbm, ⟨26, _⟩ => ⟨S1280x1155, .i32⟩
  | .hbm, ⟨27, _⟩ => ⟨S1280x1152, .i32⟩
  | .hbm, ⟨28, _⟩ => ⟨S_, .i32⟩
  | .hbm, ⟨29, _⟩ => ⟨S1280x1152, .i32⟩
  | .hbm, ⟨30, _⟩ => ⟨S1280x1152, .i32⟩
  | .hbm, ⟨31, _⟩ => ⟨S1280x1152, .i32⟩
  | .hbm, ⟨32, _⟩ => ⟨S1280x1152, .i32⟩
  | .hbm, ⟨33, _⟩ => ⟨S1280x9x128, .i32⟩
  | .hbm, ⟨34, _⟩ => ⟨S9x1280x128, .i32⟩
  | .hbm, ⟨35, _⟩ => ⟨S30720x1280, .bf16⟩
  | .local _ .vmem, ⟨0, _⟩ => ⟨S1x2x960x128, .i32⟩
  | .local _ .vmem, ⟨1, _⟩ => ⟨S1x2x960x128, .i32⟩
  | .local _ .vmem, ⟨2, _⟩ => ⟨S9x16x128, .i32⟩
  | .local _ .vmem, ⟨3, _⟩ => ⟨S9x16x128, .i32⟩
  | .local _ .vmem, ⟨4, _⟩ => ⟨S15x2x128x128, .f32⟩
  | .local _ .vmem, ⟨5, _⟩ => ⟨S15x2x128x128, .f32⟩
  | .local _ .vmem, ⟨6, _⟩ => ⟨S3840x128, .bf16⟩
  | .local _ .vmem, ⟨7, _⟩ => ⟨S3840x128, .bf16⟩
  | .local _ .vmem, ⟨8, _⟩ => ⟨S2x31200x128, .f32⟩
  | .local _ .vmem, ⟨9, _⟩ => ⟨S2x152x256, .f32⟩
  | .local _ .vmem, ⟨10, _⟩ => ⟨S2x352x128, .i32⟩
  | _, _ => ⟨S80x2x960x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg0 : BitVec 32 := BitVec.ofNat 32 (i 0).val
  let c10_i32 : BitVec 32 := 10#32
  let v5 : BitVec 1 := Scalar.cmpi .slt arg0 c10_i32
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_5 : BitVec 32 := 0#32
  let c8_i32 : BitVec 32 := 8#32
  let v11 : BitVec 32 := Scalar.addi c0_i32_5 c8_i32
  let c1_i32 : BitVec 32 := 1#32
  ⟨c0_i32_5, v11, c1_i32⟩
def k0_off1 (k0_t1 : Fin k0_t1_loop.trips) (c0_i32_13 : BitVec 32) : Fin 3 → Nat :=
  let c0 : Index := 0#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v33 : Index := Scalar.indexCast v24
  let c0_16 : Index := 0#32
  ![0, v33.toNat, 0]
def k0_off2 (k0_t1 : Fin k0_t1_loop.trips) (c0_i32_13 : BitVec 32) : Fin 3 → Nat :=
  let c1 : Index := 1#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v43 : Index := Scalar.indexCast v24
  let c0_20 : Index := 0#32
  ![1, v43.toNat, 0]
def k0_off3 (k0_t1 : Fin k0_t1_loop.trips) (c0_i32_13 : BitVec 32) : Fin 3 → Nat :=
  let c2 : Index := 2#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v53 : Index := Scalar.indexCast v24
  let c0_24 : Index := 0#32
  ![2, v53.toNat, 0]
def k0_off4 (k0_t1 : Fin k0_t1_loop.trips) (c0_i32_13 : BitVec 32) : Fin 3 → Nat :=
  let c3 : Index := 3#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v63 : Index := Scalar.indexCast v24
  let c0_28 : Index := 0#32
  ![3, v63.toNat, 0]
def k0_off5 (k0_t1 : Fin k0_t1_loop.trips) (c0_i32_13 : BitVec 32) : Fin 3 → Nat :=
  let c4 : Index := 4#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v73 : Index := Scalar.indexCast v24
  let c0_32 : Index := 0#32
  ![4, v73.toNat, 0]
def k0_off6 (k0_t1 : Fin k0_t1_loop.trips) (c0_i32_13 : BitVec 32) : Fin 3 → Nat :=
  let c5 : Index := 5#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v83 : Index := Scalar.indexCast v24
  let c0_36 : Index := 0#32
  ![5, v83.toNat, 0]
def k0_off7 (k0_t1 : Fin k0_t1_loop.trips) (c0_i32_13 : BitVec 32) : Fin 3 → Nat :=
  let c6 : Index := 6#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v93 : Index := Scalar.indexCast v24
  let c0_40 : Index := 0#32
  ![6, v93.toNat, 0]
def k0_off8 (k0_t1 : Fin k0_t1_loop.trips) (c0_i32_13 : BitVec 32) : Fin 3 → Nat :=
  let c7 : Index := 7#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v103 : Index := Scalar.indexCast v24
  let c0_44 : Index := 0#32
  ![7, v103.toNat, 0]
def k0_off9 (k0_t1 : Fin k0_t1_loop.trips) (c0_i32_13 : BitVec 32) : Fin 3 → Nat :=
  let c8 : Index := 8#32
  let c2_i32_12 : BitVec 32 := 2#32
  let c0_i32_5 : BitVec 32 := 0#32
  let c1_i32 : BitVec 32 := 1#32
  let arg9 : BitVec 32 := Scf.iv c0_i32_5 c1_i32 k0_t1
  let v23 : BitVec 32 := Scalar.muli c2_i32_12 arg9
  let v24 : BitVec 32 := Scalar.addi v23 c0_i32_13
  let v113 : Index := Scalar.indexCast v24
  let c0_48 : Index := 0#32
  ![8, v113.toNat, 0]
def k0_off10 (k0_t1 : Fin k0_t1_loop.trips) (c0_i32_430 : BitVec 32) : Fin 4 → Nat :=
  let c0_431 : Index := 0#32
  let c0_432 : Index := 0#32
  let c0_i32_5 : BitVec 32 := 0#32
  let c1_i32 : BitVec 32 := 1#32
  let arg9 : BitVec 32 := Scf.iv c0_i32_5 c1_i32 k0_t1
  let v818 : BitVec 32 := Scalar.addi c0_i32_430 arg9
  let v819 : Index := Scalar.indexCast v818
  let c0_433 : Index := 0#32
  ![0, 0, v819.toNat, 0]
def k0_off11 (k0_t1 : Fin k0_t1_loop.trips) (c0_i32_637 : BitVec 32) : Fin 4 → Nat :=
  let c0_638 : Index := 0#32
  let c1_639 : Index := 1#32
  let c0_i32_5 : BitVec 32 := 0#32
  let c1_i32 : BitVec 32 := 1#32
  let arg9 : BitVec 32 := Scf.iv c0_i32_5 c1_i32 k0_t1
  let v1106 : BitVec 32 := Scalar.addi c0_i32_637 arg9
  let v1107 : Index := Scalar.indexCast v1106
  let c0_640 : Index := 0#32
  ![0, 1, v1107.toNat, 0]
def k0_off12 (i : grid0.Coords) (k0_t1 : Fin k0_t1_loop.trips) (c0_i32_907 : BitVec 32) (c0_i32_909 : BitVec 32) : Fin 3 → Nat :=
  let arg0 : BitVec 32 := BitVec.ofNat 32 (i 0).val
  let c2_i32 : BitVec 32 := 2#32
  let c0_i32_7 : BitVec 32 := 0#32
  let v12 : BitVec 1 := Scalar.cmpi .eq c2_i32 c0_i32_7
  let c1_i32_8 : BitVec 32 := 1#32
  let v13 : BitVec 32 := Scalar.select v12 c1_i32_8 c2_i32
  let v14 : BitVec 32 := Scalar.remsi arg0 v13
  let c0_i32_10 : BitVec 32 := 0#32
  let v16 : BitVec 1 := Scalar.cmpi .slt v14 c0_i32_10
  let c0_i32_11 : BitVec 32 := 0#32
  let v17 : BitVec 1 := Scalar.cmpi .slt v13 c0_i32_11
  let v18 : BitVec 1 := Scalar.xori v16 v17
  let c0_i32_9 : BitVec 32 := 0#32
  let v15 : BitVec 1 := Scalar.cmpi .ne v14 c0_i32_9
  let v19 : BitVec 1 := Scalar.andi v18 v15
  let v20 : BitVec 32 := Scalar.addi v14 v13
  let v21 : BitVec 32 := Scalar.select v19 v20 v14
  let v1453 : Index := Scalar.indexCast v21
  let arg1 : BitVec 32 := BitVec.ofNat 32 (i 1).val
  let c16_i32 : BitVec 32 := 16#32
  let v22 : BitVec 32 := Scalar.muli arg1 c16_i32
  let v1448 : BitVec 32 := Scalar.addi c0_i32_907 v22
  let c2_i32_908 : BitVec 32 := 2#32
  let c0_i32_5 : BitVec 32 := 0#32
  let c1_i32 : BitVec 32 := 1#32
  let arg9 : BitVec 32 := Scf.iv c0_i32_5 c1_i32 k0_t1
  let v1449 : BitVec 32 := Scalar.muli c2_i32_908 arg9
  let v1450 : BitVec 32 := Scalar.addi v1448 v1449
  let v1451 : BitVec 32 := Scalar.addi v1450 c0_i32_909
  let v1454 : Index := Scalar.indexCast v1451
  let c0_910 : Index := 0#32
  ![v1453.toNat, v1454.toNat, 0]
def k0_off12_at (r : Fin 60) : BitVec 32 × BitVec 32 :=
  if r.val < 30 then
    if r.val < 15 then
      if r.val < 7 then
        if r.val < 3 then
          if r.val < 1 then
            (0#32, 0#32)
          else
            if r.val < 2 then
              (128#32, 0#32)
            else
              (260#32, 0#32)
        else
          if r.val < 5 then
            if r.val < 4 then
              (388#32, 0#32)
            else
              (520#32, 0#32)
          else
            if r.val < 6 then
              (648#32, 0#32)
            else
              (780#32, 0#32)
      else
        if r.val < 11 then
          if r.val < 9 then
            if r.val < 8 then
              (908#32, 0#32)
            else
              (1040#32, 0#32)
          else
            if r.val < 10 then
              (1168#32, 0#32)
            else
              (1300#32, 0#32)
        else
          if r.val < 13 then
            if r.val < 12 then
              (1428#32, 0#32)
            else
              (1560#32, 0#32)
          else
            if r.val < 14 then
              (1688#32, 0#32)
            else
              (1820#32, 0#32)
    else
      if r.val < 22 then
        if r.val < 18 then
          if r.val < 16 then
            (1948#32, 0#32)
          else
            if r.val < 17 then
              (2080#32, 0#32)
            else
              (2208#32, 0#32)
        else
          if r.val < 20 then
            if r.val < 19 then
              (2340#32, 0#32)
            else
              (2468#32, 0#32)
          else
            if r.val < 21 then
              (2600#32, 0#32)
            else
              (2728#32, 0#32)
      else
        if r.val < 26 then
          if r.val < 24 then
            if r.val < 23 then
              (2860#32, 0#32)
            else
              (2988#32, 0#32)
          else
            if r.val < 25 then
              (3120#32, 0#32)
            else
              (3248#32, 0#32)
        else
          if r.val < 28 then
            if r.val < 27 then
              (3380#32, 0#32)
            else
              (3508#32, 0#32)
          else
            if r.val < 29 then
              (3640#32, 0#32)
            else
              (3768#32, 0#32)
  else
    if r.val < 45 then
      if r.val < 37 then
        if r.val < 33 then
          if r.val < 31 then
            (0#32, 1#32)
          else
            if r.val < 32 then
              (128#32, 1#32)
            else
              (260#32, 1#32)
        else
          if r.val < 35 then
            if r.val < 34 then
              (388#32, 1#32)
            else
              (520#32, 1#32)
          else
            if r.val < 36 then
              (648#32, 1#32)
            else
              (780#32, 1#32)
      else
        if r.val < 41 then
          if r.val < 39 then
            if r.val < 38 then
              (908#32, 1#32)
            else
              (1040#32, 1#32)
          else
            if r.val < 40 then
              (1168#32, 1#32)
            else
              (1300#32, 1#32)
        else
          if r.val < 43 then
            if r.val < 42 then
              (1428#32, 1#32)
            else
              (1560#32, 1#32)
          else
            if r.val < 44 then
              (1688#32, 1#32)
            else
              (1820#32, 1#32)
    else
      if r.val < 52 then
        if r.val < 48 then
          if r.val < 46 then
            (1948#32, 1#32)
          else
            if r.val < 47 then
              (2080#32, 1#32)
            else
              (2208#32, 1#32)
        else
          if r.val < 50 then
            if r.val < 49 then
              (2340#32, 1#32)
            else
              (2468#32, 1#32)
          else
            if r.val < 51 then
              (2600#32, 1#32)
            else
              (2728#32, 1#32)
      else
        if r.val < 56 then
          if r.val < 54 then
            if r.val < 53 then
              (2860#32, 1#32)
            else
              (2988#32, 1#32)
          else
            if r.val < 55 then
              (3120#32, 1#32)
            else
              (3248#32, 1#32)
        else
          if r.val < 58 then
            if r.val < 57 then
              (3380#32, 1#32)
            else
              (3508#32, 1#32)
          else
            if r.val < 59 then
              (3640#32, 1#32)
            else
              (3768#32, 1#32)
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let v9 : BitVec 32 := Scalar.extui v8
  let c0_i32_4 : BitVec 32 := 0#32
  let v10 : BitVec 1 := Scalar.cmpi .ne v9 c0_i32_4
  v10

@[reducible] def k0_t2_loop : Scf.Loop 32 :=
  let c0_i32_5 : BitVec 32 := 0#32
  let c30_i32 : BitVec 32 := 30#32
  let v11 : BitVec 32 := Scalar.addi c0_i32_5 c30_i32
  let c1_i32 : BitVec 32 := 1#32
  ⟨c0_i32_5, v11, c1_i32⟩
def k0_off13 (i : grid0.Coords) (k0_t2 : Fin k0_t2_loop.trips) : Fin 3 → Nat :=
  let arg0 : BitVec 32 := BitVec.ofNat 32 (i 0).val
  let c1_i32_19 : BitVec 32 := 1#32
  let v44 : BitVec 32 := Scalar.addi arg0 c1_i32_19
  let c2_i32_20 : BitVec 32 := 2#32
  let c0_i32_21 : BitVec 32 := 0#32
  let v45 : BitVec 1 := Scalar.cmpi .eq c2_i32_20 c0_i32_21
  let c1_i32_22 : BitVec 32 := 1#32
  let v46 : BitVec 32 := Scalar.select v45 c1_i32_22 c2_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : Index := Scalar.indexCast v54
  let arg1 : BitVec 32 := BitVec.ofNat 32 (i 1).val
  let c15_i32 : BitVec 32 := 15#32
  let v39 : BitVec 32 := Scalar.muli arg1 c15_i32
  let c0_i32_5 : BitVec 32 := 0#32
  let c1_i32 : BitVec 32 := 1#32
  let arg9 : BitVec 32 := Scf.iv c0_i32_5 c1_i32 k0_t2
  let c0_i32_7 : BitVec 32 := 0#32
  let v13 : BitVec 1 := Scalar.cmpi .sgt arg9 c0_i32_7
  let v14 : BitVec 32 := Scalar.extui v13
  let c0_i32_8 : BitVec 32 := 0#32
  let v15 : BitVec 1 := Scalar.cmpi .slt arg9 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg9 c2_i32
  let c0_i32_11 : BitVec 32 := 0#32
  let v25 : BitVec 1 := Scalar.cmpi .ne v24 c0_i32_11
  let v26 : BitVec 1 := Scalar.andi v23 v25
  let v12 : BitVec 32 := Scalar.divsi arg9 c2_i32
  let c1_i32_12 : BitVec 32 := 1#32
  let v27 : BitVec 32 := Scalar.subi v12 c1_i32_12
  let v28 : BitVec 32 := Scalar.select v26 v27 v12
  let v40 : BitVec 32 := Scalar.addi v39 v28
  let c260_i32 : BitVec 32 := 260#32
  let v41 : BitVec 32 := Scalar.muli v40 c260_i32
  let c2_i32_13 : BitVec 32 := 2#32
  let c0_i32_14 : BitVec 32 := 0#32
  let v29 : BitVec 1 := Scalar.cmpi .eq c2_i32_13 c0_i32_14
  let c1_i32_15 : BitVec 32 := 1#32
  let v30 : BitVec 32 := Scalar.select v29 c1_i32_15 c2_i32_13
  let v31 : BitVec 32 := Scalar.remsi arg9 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c128_i32 : BitVec 32 := 128#32
  let v42 : BitVec 32 := Scalar.muli v38 c128_i32
  let v43 : BitVec 32 := Scalar.addi v41 v42
  let v56 : Index := Scalar.indexCast v43
  let c0 : Index := 0#32
  ![v55.toNat, v56.toNat, 0]
def k0_off14 (k0_t2 : Fin k0_t2_loop.trips) : Fin 4 → Nat :=
  let c0_i32_5 : BitVec 32 := 0#32
  let c1_i32 : BitVec 32 := 1#32
  let arg9 : BitVec 32 := Scf.iv c0_i32_5 c1_i32 k0_t2
  let c0_i32_7 : BitVec 32 := 0#32
  let v13 : BitVec 1 := Scalar.cmpi .sgt arg9 c0_i32_7
  let v14 : BitVec 32 := Scalar.extui v13
  let c0_i32_8 : BitVec 32 := 0#32
  let v15 : BitVec 1 := Scalar.cmpi .slt arg9 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg9 c2_i32
  let c0_i32_11 : BitVec 32 := 0#32
  let v25 : BitVec 1 := Scalar.cmpi .ne v24 c0_i32_11
  let v26 : BitVec 1 := Scalar.andi v23 v25
  let v12 : BitVec 32 := Scalar.divsi arg9 c2_i32
  let c1_i32_12 : BitVec 32 := 1#32
  let v27 : BitVec 32 := Scalar.subi v12 c1_i32_12
  let v28 : BitVec 32 := Scalar.select v26 v27 v12
  let v59 : Index := Scalar.indexCast v28
  let c2_i32_13 : BitVec 32 := 2#32
  let c0_i32_14 : BitVec 32 := 0#32
  let v29 : BitVec 1 := Scalar.cmpi .eq c2_i32_13 c0_i32_14
  let c1_i32_15 : BitVec 32 := 1#32
  let v30 : BitVec 32 := Scalar.select v29 c1_i32_15 c2_i32_13
  let v31 : BitVec 32 := Scalar.remsi arg9 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let v60 : Index := Scalar.indexCast v38
  let c0_26 : Index := 0#32
  let c0_27 : Index := 0#32
  ![v59.toNat, v60.toNat, 0, 0]
def k0_mult1 (k0_t2 : Fin k0_t2_loop.trips) : BitVec 32 :=
  let c0_i32_5 : BitVec 32 := 0#32
  let c1_i32 : BitVec 32 := 1#32
  let arg9 : BitVec 32 := Scf.iv c0_i32_5 c1_i32 k0_t2
  let c128_i32_28 : BitVec 32 := 128#32
  let v66 : BitVec 32 := Scalar.muli arg9 c128_i32_28
  v66
def k0_off15 (k0_t2 : Fin k0_t2_loop.trips) : Fin 2 → Nat :=
  let c0_i32_5 : BitVec 32 := 0#32
  let c1_i32 : BitVec 32 := 1#32
  let arg9 : BitVec 32 := Scf.iv c0_i32_5 c1_i32 k0_t2
  let c128_i32_28 : BitVec 32 := 128#32
  let v66 : BitVec 32 := Scalar.muli arg9 c128_i32_28
  let v67 : BitVec 32 := v66
  let v68 : Index := Scalar.indexCast v67
  let c0_29 : Index := 0#32
  ![v68.toNat, 0]
def cc0_transform_0 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.minsi arg0 c9_i32
  let c8_i32 : BitVec 32 := 8#32
  let v1 : BitVec 32 := Scalar.muli v0 c8_i32
  let c9_i32_0 : BitVec 32 := 9#32
  let v2 : BitVec 1 := Scalar.cmpi .sgt arg0 c9_i32_0
  let c7_i32 : BitVec 32 := 7#32
  let v3 : BitVec 32 := Scalar.select v2 c7_i32 arg1
  let v4 : BitVec 32 := Scalar.addi v1 v3
  let c0_i32 : BitVec 32 := 0#32
  let c0_i32_1 : BitVec 32 := 0#32
  let c0_i32_2 : BitVec 32 := 0#32
  let c0_i32_3 : BitVec 32 := 0#32
  ![v4.toNat, c0_i32.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg0 c9_i32
  let c8_i32 : BitVec 32 := 8#32
  let v1 : BitVec 32 := Scalar.muli v0 c8_i32
  let c9_i32_0 : BitVec 32 := 9#32
  let v2 : BitVec 1 := Scalar.cmpi .sgt arg0 c9_i32_0
  let c7_i32 : BitVec 32 := 7#32
  let v3 : BitVec 32 := Scalar.select v2 c7_i32 arg1
  let v4 : BitVec 32 := Scalar.addi v1 v3
  let c0_i32 : BitVec 32 := 0#32
  let c0_i32_1 : BitVec 32 := 0#32
  let c0_i32_2 : BitVec 32 := 0#32
  ![c0_i32.toNat, v4.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1x2x960x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S15x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3840x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Proof.Scale.lean ====
/-
  The quantiser's power of two, two ways, on the extended reals.

  A quantiser divides by `2 ^ e` with `2 ^ (e - 1) ≤ x < 2 ^ e`, `x` its largest magnitude over 448. The reference takes
  `e` as `⌊log x / log 2⌋ + 1`, at most 126, and 0 where `x` is below `2 ^ -126`. The kernel counts the powers of two
  `2 ^ -126 … 2 ^ 125` that `x` reaches, which is the exponent field of `x`, and makes the scale and its inverse by
  writing a field into a float's bits. Here both are the same function of `x`, for every extended real.
-/
module

public import Idealize.ShloMosaic.Lib.Pointwise
public import Mathlib.Analysis.SpecialFunctions.Log.Basic
public import Mathlib.Data.Fintype.Fin

@[expose] public section

noncomputable section

namespace Cert.Scale

open Idealize.ShloMosaic

/-! ## The reference's exponent -/

/-- The reference's exponent of `x`. -/
def expo (x : EReal) : EReal :=
  Scalar.select (Ideal.cmp .olt x (Ideal.ofBits .f32 0x00800000#32)) 0
    (min (Ideal.liftRound Int.floor (Ideal.div (Ideal.log x) (Ideal.log (Ideal.ofBits .f32 0x40000000#32))) + 1)
      (Ideal.ofBits .f32 0x42FC0000#32))

/-- The scale `2 ^ e`. -/
def scale (x : EReal) : EReal := Ideal.exp2 (expo x)

/-- Its inverse `2 ^ -e`. -/
def inv (x : EReal) : EReal := Ideal.exp2 (0 - expo x)

/-! ## The kernel's exponent field -/

/-- Bit by bit: does `x` reach the power of two with exponent field `f + 1`? -/
def reached (x : EReal) (f : Fin 252) : BitVec 32 :=
  BitVec.setWidth 32 (BitVec.ofBool (decide
    (Ideal.ofBits .f32 (IntOp.shli .vector (IntOp.addi (BitVec.ofNat 32 f.val) 1#32) 23#32) ≤ x)))

/-- How many of them `x` reaches. -/
def count (x : EReal) : BitVec 32 := Finset.fold IntOp.addi 0#32 (reached x) Finset.univ

/-- The kernel's exponent field: the count, and the field of 1/2 where nothing is reached. -/
def field (x : EReal) : BitVec 32 := Scalar.select (IntOp.cmpi .eq (count x) 0#32) 126#32 (count x)

/-! ## Words as powers of two -/

theorem shl23 (w : BitVec 32) : IntOp.shli .vector w 23#32 = w <<< 23 := by
  simp [IntOp.shli, IntOp.cornerWord]

theorem word_parts : ∀ n : Fin 255,
    ((BitVec.ofNat 32 n.val <<< 23).extractLsb' 31 1 == 1#1) = false ∧
    ((BitVec.ofNat 32 n.val <<< 23).extractLsb' 23 8).toNat = n.val ∧
    ((BitVec.ofNat 32 n.val <<< 23).extractLsb' 0 23).toNat = 0 := by
  decide +kernel

/-- The word with exponent field `n` and nothing else is the power of two `2 ^ (n - 127)`. -/
theorem ofBits_field (n : Nat) (h1 : 1 ≤ n) (h2 : n ≤ 254) :
    Ideal.ofBits .f32 (IntOp.shli .vector (BitVec.ofNat 32 n) 23#32) = (((2 : ℝ) ^ ((n : ℤ) - 127) : ℝ) : EReal) := by
  obtain ⟨hs, he, hf⟩ := word_parts ⟨n, by omega⟩
  rw [shl23]
  show Ideal.ieee 8 23 (BitVec.ofNat 32 n <<< 23) = _
  simp only at hs he hf
  simp only [Ideal.ieee, Nat.reduceAdd, hs, he, hf, Nat.reducePow, Nat.reduceSub]
  rw [if_neg (by omega), if_neg (by omega)]
  refine congrArg Real.toEReal ?_
  have : ((n : ℤ) - (2 ^ 7 - 1) - ((23 : ℕ) : ℤ)) = ((n : ℤ) - 127) - 23 := by norm_num
  rw [this, zpow_sub₀ (by norm_num : (2 : ℝ) ≠ 0)]
  norm_num
  ring

theorem ofBits_field_zero : Ideal.ofBits .f32 0x00800000#32 = (((2 : ℝ) ^ (-126 : ℤ) : ℝ) : EReal) := by
  have h := ofBits_field 1 (by omega) (by omega)
  rw [shl23] at h
  exact h

theorem ofBits_two : Ideal.ofBits .f32 0x40000000#32 = ((2 : ℝ) : EReal) := by
  have h := ofBits_field 128 (by omega) (by omega)
  rw [shl23] at h
  refine Eq.trans h ?_
  norm_num

theorem ofBits_126 : Ideal.ofBits .f32 0x42FC0000#32 = ((126 : ℝ) : EReal) := by
  show Ideal.ieee 8 23 0x42FC0000#32 = _
  have hs : ((0x42FC0000#32).extractLsb' 31 1 == 1#1) = false := by decide
  have he : ((0x42FC0000#32).extractLsb' 23 8).toNat = 133 := by decide
  have hf : ((0x42FC0000#32).extractLsb' 0 23).toNat = 8126464 := by decide
  simp only [Ideal.ieee, Nat.reduceAdd, hs, he, hf, Nat.reducePow, Nat.reduceSub]
  norm_num

/-! ## The count -/

/-- A sum of one-bit words is the number of ones. -/
theorem fold_count {ι : Type} [DecidableEq ι] (p : ι → Prop) [DecidablePred p] (s : Finset ι) :
    Finset.fold IntOp.addi 0#32 (fun i => BitVec.setWidth 32 (BitVec.ofBool (decide (p i)))) s
      = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (by simp [ha])]
      simp only [h, decide_true, IntOp.addi, BitVec.ofNat_add]
      rw [BitVec.add_comm]; rfl
    · rw [if_neg h]
      simp only [h, decide_false, IntOp.addi]
      exact BitVec.zero_add _

theorem reached_word (f : Fin 252) :
    Ideal.ofBits .f32 (IntOp.shli .vector (IntOp.addi (BitVec.ofNat 32 f.val) 1#32) 23#32)
      = (((2 : ℝ) ^ ((f.val : ℤ) - 126) : ℝ) : EReal) := by
  have h : IntOp.addi (BitVec.ofNat 32 f.val) 1#32 = BitVec.ofNat 32 (f.val + 1) := by
    simp [IntOp.addi, BitVec.ofNat_add]
  rw [h, ofBits_field _ (by omega) (by omega)]
  refine congrArg Real.toEReal (congrArg (fun k : ℤ => (2 : ℝ) ^ k) ?_)
  push_cast; ring

theorem count_eq (x : EReal) : count x = BitVec.ofNat 32
    (Finset.univ.filter fun f : Fin 252 => (((2 : ℝ) ^ ((f.val : ℤ) - 126) : ℝ) : EReal) ≤ x).card := by
  rw [← fold_count]
  unfold count reached
  congr 1
  funext f
  rw [reached_word]

/-- Below the least power nothing is reached. -/
theorem count_low (x : EReal) (h : x < (((2 : ℝ) ^ (-126 : ℤ) : ℝ) : EReal)) : count x = 0#32 := by
  rw [count_eq, Finset.card_eq_zero.mpr]
  rw [Finset.filter_eq_empty_iff]
  intro f _ hle
  refine absurd (lt_of_le_of_lt hle h) (not_lt.mpr ?_)
  exact EReal.coe_le_coe_iff.mpr (zpow_le_zpow_right₀ (by norm_num) (by omega))

/-- The integer below the base-2 logarithm of `r`. -/
def lg (r : ℝ) : ℤ := ⌊Real.log r * (1 / Real.log 2)⌋

/-- A power of two is at most `r` exactly when its exponent is at most `lg r`. -/
theorem zpow_le_iff (k : ℤ) {r : ℝ} (hr : 0 < r) : (2 : ℝ) ^ k ≤ r ↔ k ≤ lg r := by
  have hl0 : 0 < Real.log 2 := Real.log_pos (by norm_num)
  rw [lg, Int.le_floor, mul_one_div, le_div_iff₀ hl0, ← Real.log_zpow, Real.log_le_log_iff (by positivity) hr]

/-- From there on the count is the exponent plus 127, at most 252. -/
theorem count_real (r : ℝ) (h : (2 : ℝ) ^ (-126 : ℤ) ≤ r) :
    count (r : EReal) = BitVec.ofNat 32 (min 252 (lg r + 127).toNat) := by
  have hr : 0 < r := lt_of_lt_of_le (by positivity) h
  rw [count_eq]
  congr 1
  rw [← Fin.card_filter_val_lt]
  congr 1
  ext f
  simp only [Finset.mem_filter, Finset.mem_univ, true_and]
  have h2 := zpow_le_iff ((f.val : ℤ) - 126) hr
  rw [EReal.coe_le_coe_iff]
  refine Iff.trans ?_ (h2.trans ?_)
  · norm_num
  · omega

theorem count_top : count ⊤ = 252#32 := by
  rw [count_eq, Finset.filter_true_of_mem (fun _ _ => le_top)]
  simp

/-! ## The two agree -/

/-- The kernel's field and the reference's exponent: the field is `e + 126`, `e` an integer. -/
theorem field_expo (x : EReal) :
    ∃ n : Nat, 1 ≤ n ∧ n ≤ 252 ∧ field x = BitVec.ofNat 32 n ∧ expo x = (((n : ℝ) - 126 : ℝ) : EReal) := by
  by_cases hlow : x < (((2 : ℝ) ^ (-126 : ℤ) : ℝ) : EReal)
  · refine ⟨126, by omega, by omega, ?_, ?_⟩
    · rw [field, count_low x hlow]; rfl
    · rw [expo, ofBits_field_zero]
      simp only [Ideal.cmp, hlow, decide_true]
      rw [show BitVec.ofBool true = 1#1 from rfl, ValueIdx.select_one]
      norm_num
  · have hcmp : ∀ a b : EReal, Scalar.select (Ideal.cmp .olt x (Ideal.ofBits .f32 0x00800000#32)) a b = b := by
      intro a b
      rw [ofBits_field_zero]
      simp only [Ideal.cmp, hlow, decide_false]
      rfl
    induction x using EReal.rec with
    | bot => exact absurd (EReal.bot_lt_coe _) hlow
    | top =>
      refine ⟨252, by omega, by omega, ?_, ?_⟩
      · rw [field, count_top]; rfl
      · rw [expo, hcmp, ofBits_126, ofBits_two, Ideal.log_top, Ideal.log_coe, if_neg (by norm_num)]
        have hl : Real.log 2 ≠ 0 := (Real.log_pos (by norm_num)).ne'
        rw [Ideal.div_coe hl, EReal.top_mul_coe_of_pos (by positivity), Ideal.liftRound_top]
        rw [show (⊤ : EReal) + 1 = ⊤ from EReal.top_add_of_ne_bot (by decide), min_eq_right le_top]
        norm_num
    | coe r =>
      have hr2 : (2 : ℝ) ^ (-126 : ℤ) ≤ r := by
        rw [not_lt] at hlow; exact EReal.coe_le_coe_iff.mp hlow
      have hr : 0 < r := lt_of_lt_of_le (by positivity) hr2
      have hn : -126 ≤ lg r :=
        (zpow_le_iff (-126) hr).mp hr2
      refine ⟨min 252 (lg r + 127).toNat, by omega, by omega, ?_, ?_⟩
      · rw [field, count_real r hr2]
        generalize hm : min 252 (lg r + 127).toNat = m
        have hm1 : 1 ≤ m := by omega
        have hm2 : m ≤ 252 := by omega
        have hne : BitVec.ofNat 32 m ≠ 0#32 := by
          intro h0
          have := congrArg BitVec.toNat h0
          simp at this; omega
        have hc : IntOp.cmpi .eq (BitVec.ofNat 32 m) 0#32 = 0#1 := by
          show BitVec.ofBool (BitVec.ofNat 32 m == 0#32) = 0#1
          rw [beq_eq_false_iff_ne.mpr hne]; rfl
        rw [hc, ValueIdx.select_zero]
      · rw [expo, hcmp, ofBits_126, ofBits_two, Ideal.log_coe, if_neg (not_le.mpr hr), Ideal.log_coe, if_neg (by norm_num)]
        have hl : Real.log 2 ≠ 0 := (Real.log_pos (by norm_num)).ne'
        rw [Ideal.div_coe hl, ← EReal.coe_mul, Ideal.liftRound_coe]
        have hfl : ⌊Real.log r * (1 / Real.log 2)⌋ = lg r := rfl
        have hone : (1 : EReal) = ((1 : ℝ) : EReal) := rfl
        rw [hfl, hone, ← EReal.coe_add, ← EReal.coe_strictMono.monotone.map_min]
        refine congrArg Real.toEReal ?_
        have hz : ((min 252 (lg r + 127).toNat : ℕ) : ℤ) = min (lg r + 1) 126 + 126 := by omega
        have hzr : ((min 252 (lg r + 127).toNat : ℕ) : ℝ) = min ((lg r : ℝ) + 1) 126 + 126 := by
          exact_mod_cast congrArg (Int.cast : ℤ → ℝ) hz
        rw [hzr]; ring

/-- The kernel's scale is the reference's. -/
theorem scale_field (x : EReal) :
    Ideal.ofBits .f32 (IntOp.shli .vector (IntOp.addi (field x) 1#32) 23#32) = scale x := by
  obtain ⟨n, h1, h2, hf, he⟩ := field_expo x
  have h : IntOp.addi (BitVec.ofNat 32 n) 1#32 = BitVec.ofNat 32 (n + 1) := by
    simp [IntOp.addi, BitVec.ofNat_add]
  rw [hf, h, ofBits_field _ (by omega) (by omega), scale, he, Ideal.exp2_coe]
  refine congrArg Real.toEReal ?_
  rw [← Real.rpow_intCast]
  refine congrArg (fun k : ℝ => (2 : ℝ) ^ k) ?_
  push_cast; ring

/-- The kernel's inverse scale is the reference's. -/
theorem inv_field (x : EReal) :
    Ideal.ofBits .f32 (IntOp.shli .vector (IntOp.subi 253#32 (field x)) 23#32) = inv x := by
  obtain ⟨n, h1, h2, hf, he⟩ := field_expo x
  have h : IntOp.subi 253#32 (BitVec.ofNat 32 n) = BitVec.ofNat 32 (253 - n) := by
    show 253#32 - BitVec.ofNat 32 n = _
    apply BitVec.eq_of_toNat_eq
    simp [BitVec.toNat_sub]
    omega
  have hz : (0 : EReal) = ((0 : ℝ) : EReal) := rfl
  rw [hf, h, ofBits_field _ (by omega) (by omega), inv, he, hz, ← EReal.coe_sub, Ideal.exp2_coe]
  refine congrArg Real.toEReal ?_
  rw [← Real.rpow_intCast]
  refine congrArg (fun k : ℝ => (2 : ℝ) ^ k) ?_
  have : ((253 - n : ℕ) : ℤ) = 253 - (n : ℤ) := by omega
  rw [this]; push_cast; ring

end Cert.Scale
-- ==== Proof.Spec.lean ====
/-
  What the projection computes, on the extended reals, one row or one column at a time.

  A token's row `u` of 1280 values is quantised by its own power of two (`uscale`, `ucode`) and multiplied by a column
  `w` of the projection's weights (`prj`). The product of two such projections (`zv`) is quantised per column over each
  block of 128 tokens (`zscale`, `zcode`). A third projection is kept as it is (`qv`).
-/
module

public import proofs.«01_k».proof.Proof.Scale

@[expose] public section

noncomputable section

open scoped BigOperators

namespace Cert.Spec

open Idealize.ShloMosaic Cert.Scale

/-- The f32 number nearest 1/448. -/
def c448 : EReal := Ideal.ofBits .f32 0x3B124925#32

/-- Clipping to ±448. -/
def clip (x : EReal) : EReal := min (Ideal.ofBits .f32 0x43E00000#32) (max (Ideal.ofBits .f32 0xC3E00000#32) x)

/-- The largest magnitude of a family, over 448. -/
def amax {n : Nat} (f : Fin n → EReal) : EReal := Finset.fold max ⊥ (fun k => max (f k) (-(f k))) Finset.univ * c448

/-- A row's scale, and its codes. -/
def uscale (u : Fin 1280 → EReal) : EReal := scale (amax u)
def ucode (u : Fin 1280 → EReal) (k : Fin 1280) : EReal := clip (u k * inv (amax u))

/-- A row's codes times a column of weights. -/
def dot (u w : Fin 1280 → EReal) : EReal := ∑ k, ucode u k * w k

/-- The row's projection on a column whose weights carry the scale `s`. -/
def prj (u w : Fin 1280 → EReal) (s : EReal) : EReal := dot u w * uscale u * s

/-- The product of two projections. -/
def zv (u wk wv : Fin 1280 → EReal) (sk sv : EReal) : EReal := prj u wk sk * prj u wv sv

/-- One column of the products over a block of 128 rows: its scale, and its codes. -/
def zscale (U : Fin 128 → Fin 1280 → EReal) (wk wv : Fin 1280 → EReal) (sk sv : EReal) : EReal :=
  scale (amax fun i => zv (U i) wk wv sk sv)
def zcode (U : Fin 128 → Fin 1280 → EReal) (wk wv : Fin 1280 → EReal) (sk sv : EReal) (i : Fin 128) : EReal :=
  clip (zv (U i) wk wv sk sv * inv (amax fun i => zv (U i) wk wv sk sv))

theorem negInf_bf16 : Ideal.ofBits .bf16 0xFF80#16 = ⊥ := by
  show Ideal.ieee 8 7 0xFF80#16 = ⊥
  have hs : ((0xFF80#16).extractLsb' 15 1 == 1#1) = true := by decide
  have he : ((0xFF80#16).extractLsb' 7 8).toNat = 255 := by decide
  have hf : ((0xFF80#16).extractLsb' 0 7).toNat = 0 := by decide
  simp only [Ideal.ieee, Nat.reduceAdd, hs, he, hf, Nat.reducePow, Nat.reduceSub, if_true]

theorem negInf_f32 : Ideal.ofBits .f32 0xFF800000#32 = ⊥ := by
  show Ideal.ieee 8 23 0xFF800000#32 = ⊥
  have hs : ((0xFF800000#32).extractLsb' 31 1 == 1#1) = true := by decide
  have he : ((0xFF800000#32).extractLsb' 23 8).toNat = 255 := by decide
  have hf : ((0xFF800000#32).extractLsb' 0 23).toNat = 0 := by decide
  simp only [Ideal.ieee, Nat.reduceAdd, hs, he, hf, Nat.reducePow, Nat.reduceSub, if_true]

end Cert.Spec
-- ==== Proof.Block.lean ====
/-
  The kernel's vector operations on one tile of 512 tokens, read at an index: the token scales and codes, the products
  of two projections on a tile of 256 columns, their column scales and codes over 128 tokens, and the third projection.
-/
module

public import proofs.«01_k».proof.Proof.Spec
public import proofs.«01_k».proof.Proof.Gen.KernelIdeal.Skeleton

@[expose] public section

noncomputable section

open scoped BigOperators

namespace Cert.Block

open Idealize.ShloMosaic Cert.KernelIdeal Cert.KernelIdeal.Gen Cert.Scale Cert.Spec

set_option maxRecDepth 16384

/-! ## Tokens -/

theorem ufield (x : Vec Ideal S512x1280 .bf16) (r : Fin 512) :
    k0_pay3 (F := Ideal) x (ix2 r 0) = field (amax fun k => x (ix2 r k)) := by
  unfold k0_pay3 k0_pay2
  pointwise
  simp only [negInf_bf16]
  rfl

theorem uscale_apply (x : Vec Ideal S512x1280 .bf16) (r : Fin 512) :
    k0_pay4 (F := Ideal) x (ix2 r 0) = uscale fun k => x (ix2 r k) := by
  unfold k0_pay4
  pointwise
  rw [ufield]
  exact scale_field _

theorem ucode_apply (x : Vec Ideal S512x1280 .bf16) (r : Fin 512) (k : Fin 1280) :
    k0_pay5 (F := Ideal) x (ix2 r k) = ucode (fun k => x (ix2 r k)) k := by
  unfold k0_pay5 k0_pay2
  pointwise
  rw [ufield, inv_field]
  rfl

/-! ## The products of two projections -/

/-- A tile of 256 columns of the products of two projections. -/
def zV (x : Vec Ideal S512x1280 .bf16) (wk wv : Vec Ideal S1280x256 .fp8e4m3) (sk sv : Vec Ideal S1x256 .f32) :
    FVec Ideal S512x256 .f32 :=
  k0_pay15 (k0_pay4 x) (k0_pay5 x) (k0_pay14 (k0_pay5 x) wk) wv sk sv

theorem zV_apply (x : Vec Ideal S512x1280 .bf16) (wk wv : Vec Ideal S1280x256 .fp8e4m3) (sk sv : Vec Ideal S1x256 .f32)
    (r : Fin 512) (c : Fin 256) :
    zV x wk wv sk sv (ix2 r c)
      = zv (fun k => x (ix2 r k)) (fun k => wk (ix2 k c)) (fun k => wv (ix2 k c)) (sk (ix2 0 c)) (sv (ix2 0 c)) := by
  unfold zV k0_pay15 k0_pay14
  pointwise
  simp only [uscale_apply, ucode_apply]
  rfl

/-! ## Their column scales and codes over 128 tokens -/

/-- Each column's largest magnitude, over 448. -/
def colMax (v : FVec Ideal S128x256 .f32) : FVec Ideal S1x256 .f32 :=
  mulf (shapeCast S1x256 (multiReduction .maximumf [0] S256 (absf v) 0xFF800000#32 reduces_S128x256_S256 (.inl rfl) rfl)
    shapeCasts_S256_S1x256) (broadcast S1x256 (Scalar.ofBits .f32 0x3B124925#32))

/-- How many powers of two it reaches. -/
def colCount (v : FVec Ideal S128x256 .f32) : IVec S1x256 32 :=
  shapeCast S1x256 (multiReductionI .add [0] S256
    (extui 32 (cmpf .oge (broadcastTo S252x256 (colMax v) broadcasts_S1x256_S252x256)
      (broadcastTo S252x256 (bitcastToFloat .f32 (shli (addi (iota .tc S252x1 32 [0] iota_S252x1_d0_w32)
        (broadcast S252x1 1#32)) (broadcast S252x1 23#32))) broadcasts_S252x1_S252x256)) natLt_1_32)
    0#32 reduces_S252x256_S256 rfl) shapeCasts_S256_S1x256

/-- Each column's exponent field. -/
def colField (v : FVec Ideal S128x256 .f32) : IVec S1x256 32 :=
  select (cmpi .eq (colCount v) (broadcast S1x256 0#32)) (broadcast S1x256 126#32) (colCount v)

/-- Each column's scale and its inverse. -/
def colScale (v : FVec Ideal S128x256 .f32) : FVec Ideal S1x256 .f32 :=
  bitcastToFloat .f32 (shli (addi (colField v) (broadcast S1x256 1#32)) (broadcast S1x256 23#32))
def colInv (v : FVec Ideal S128x256 .f32) : FVec Ideal S1x256 .f32 :=
  bitcastToFloat .f32 (shli (subi (broadcast S1x256 253#32) (colField v)) (broadcast S1x256 23#32))

/-- The columns' codes. -/
def zcV (v : FVec Ideal S128x256 .f32) : FVec Ideal S128x256 .fp8e4m3 :=
  truncf .fp8e4m3 (minimumf (broadcast S128x256 (Scalar.ofBits .f32 0x43E00000#32))
    (maximumf (broadcast S128x256 (Scalar.ofBits .f32 0xC3E00000#32))
      (mulf v (broadcastTo S128x256 (colInv v) broadcasts_S1x256_S128x256)))) bitsLt_fp8e4m3_f32

/-- The scales as they are stored. -/
def zsV (v : FVec Ideal S128x256 .f32) : FVec Ideal S1x1x256 .f32 :=
  shapeCast S1x1x256 (colScale v) shapeCasts_S1x256_S1x1x256

theorem colField_apply (v : FVec Ideal S128x256 .f32) (c : Fin 256) :
    colField v (ix2 0 c) = field (amax fun i => v (ix2 i c)) := by
  unfold colField colCount colMax
  pointwise
  simp only [negInf_f32]
  rfl

theorem zcV_apply (v : FVec Ideal S128x256 .f32) (i : Fin 128) (c : Fin 256) :
    zcV v (ix2 i c) = clip (v (ix2 i c) * inv (amax fun i => v (ix2 i c))) := by
  unfold zcV colInv
  pointwise
  rw [colField_apply, inv_field]
  rfl

theorem zsV_apply (v : FVec Ideal S128x256 .f32) (c : Fin 256) :
    zsV v (ix3 0 0 c) = scale (amax fun i => v (ix2 i c)) := by
  unfold zsV colScale
  pointwise
  rw [colField_apply, scale_field]

/-! ## The third projection -/

/-- The token scales of 128 tokens, laid along the lanes. -/
def usRow (off : Fin 2 → Nat) (h : S512x1.Slices off S128x1) (x : Vec Ideal S512x1280 .bf16) : FVec Ideal S1x128 .f32 :=
  extractStridedSlice S1x128 ![0, 0] (transpose S128x128 [1, 0] (broadcastTo S128x128
    (shapeCast S128x1 (extractStridedSlice S128x1 off (k0_pay4 x) h) shapeCasts_S128x1_S128x1)
    broadcasts_S128x1_S128x128) transposes_S128x128_p1_0_S128x128) slices_S128x128_o0_0_S1x128

/-- 256 columns of the third projection at 128 tokens, columns by tokens. -/
def qV (off : Fin 2 → Nat) (h : S256x512.Slices off S256x128) (us : FVec Ideal S1x128 .f32) (x : Vec Ideal S512x1280 .bf16)
    (w : Vec Ideal S256x1280 .fp8e4m3) (s : Vec Ideal S256x128 .f32) : FVec Ideal S1x1x256x128 .f32 :=
  shapeCast S1x1x256x128 (mulf (mulf (extractStridedSlice S256x128 off (k0_pay243 (k0_pay5 x) w) h)
    (broadcastTo S256x128 us broadcasts_S1x128_S256x128)) (shapeCast S256x128 s shapeCasts_S256x128_S256x128))
    shapeCasts_S256x128_S1x1x256x128

theorem usRow_apply (b : Fin 4) (h : S512x1.Slices ![128 * b.val, 0] S128x1) (x : Vec Ideal S512x1280 .bf16) (l : Fin 128) :
    usRow ![128 * b.val, 0] h x (ix2 0 l) = uscale fun k => x (ix2 ⟨128 * b.val + l.val, by omega⟩ k) := by
  unfold usRow
  pointwise
  rw [uscale_apply]

theorem qV_apply (b : Fin 4) (h : S256x512.Slices ![0, 128 * b.val] S256x128) (us : FVec Ideal S1x128 .f32)
    (x : Vec Ideal S512x1280 .bf16) (w : Vec Ideal S256x1280 .fp8e4m3) (s : Vec Ideal S256x128 .f32) (d : Fin 256) (l : Fin 128) :
    qV ![0, 128 * b.val] h us x w s (ix4 0 0 d l)
      = dot (fun k => x (ix2 ⟨128 * b.val + l.val, by omega⟩ k)) (fun k => w (ix2 d k)) * us (ix2 0 l) * s (ix2 d l) := by
  unfold qV k0_pay243
  pointwise
  simp only [ucode_apply]
  unfold dot
  simp only [mul_comm (w _)]

end Cert.Block
-- ==== Proof.Pieces.lean ====
/-
  What the kernel's body leaves in its five output windows at one grid point, from the blocks it reads: each store is
  the tile of one function of the window's index, and the stores cover the window.
-/
module

public import proofs.«01_k».proof.Proof.Block
public import proofs.«01_k».proof.Proof.Gen.KernelIdeal.Frame
public import Idealize.ShloMosaic.Lib.Pipeline.ValueKit

@[expose] public section

noncomputable section

open scoped BigOperators

namespace Cert.Pieces

open Idealize.ShloMosaic Cert.KernelIdeal Cert.KernelIdeal.Gen Cert.Scale Cert.Spec Cert.Block

set_option maxRecDepth 16384

/-! ## The functions -/

/-- The 128 tokens of block `b`. -/
def rows (x : Vec Ideal S512x1280 .bf16) (b : Fin 4) (i : Fin 128) (k : Fin 1280) : EReal :=
  x (ix2 ⟨128 * b.val + i.val, by omega⟩ k)

def ucE (x : Vec Ideal S512x1280 .bf16) : S512x1280.Idx → EReal :=
  fun y => ucode (fun k => x (ix2 (y 0) k)) (y 1)

def usE (x : Vec Ideal S512x1280 .bf16) : S1x4x128.Idx → EReal :=
  fun y => uscale (rows x (y 1) (y 2))

def zcE (x : Vec Ideal S512x1280 .bf16) (wk wv : Vec Ideal S1280x1280 .fp8e4m3) (sk sv : Vec Ideal S1x1280 .f32) :
    S512x1280.Idx → EReal :=
  fun y => zcode (rows x ⟨(y 0).val / 128, by have := (y 0).isLt; change _ < 512 at this; omega⟩)
    (fun k => wk (ix2 k (y 1))) (fun k => wv (ix2 k (y 1))) (sk (ix2 0 (y 1))) (sv (ix2 0 (y 1)))
    ⟨(y 0).val % 128, Nat.mod_lt _ (by omega)⟩

def zsE (x : Vec Ideal S512x1280 .bf16) (wk wv : Vec Ideal S1280x1280 .fp8e4m3) (sk sv : Vec Ideal S1x1280 .f32) :
    S1x4x1280.Idx → EReal :=
  fun y => zscale (rows x (y 1)) (fun k => wk (ix2 k (y 2))) (fun k => wv (ix2 k (y 2))) (sk (ix2 0 (y 2))) (sv (ix2 0 (y 2)))

def qE (x : Vec Ideal S512x1280 .bf16) (wq : Vec Ideal S1280x1280 .fp8e4m3) (sq : Vec Ideal S1280x128 .f32) :
    S2x2x1280x128.Idx → EReal :=
  fun y => prj (rows x ⟨2 * (y 0).val + (y 1).val, by
      have h0 := (y 0).isLt; have h1 := (y 1).isLt; change _ < 2 at h0; change _ < 2 at h1; omega⟩ (y 3))
    (fun k => wq (ix2 (y 2) k)) (sq (ix2 (y 2) (y 3)))

/-! ## One store of each window -/

variable (x0 : Vec Ideal S512x1280 .bf16) (x1 x2 x3 : Vec Ideal S1280x1280 .fp8e4m3) (x4 x5 : Vec Ideal S1x1280 .f32)
  (x6 : Vec Ideal S1280x128 .f32)

theorem ld_x0 : View.ld (Val := Elt Ideal) x0 r0_0 = x0 := View.ld_unit_lit _ x0 (by decide)

/-- The products of tile `n`, from the weights' blocks. -/
def zTile (n : Nat) (hw : ∀ a, ![0, 256 * n] a + S1280x256.size a ≤ S1280x1280.size a)
    (hs : ∀ a, ![0, 256 * n] a + S1x256.size a ≤ S1x1280.size a) : FVec Ideal S512x256 .f32 :=
  zV (View.ld x0 r0_0) (View.ld x1 (Rect.unit (s := S1280x1280) ![0, 256 * n] S1280x256.size hw))
    (View.ld x2 (Rect.unit (s := S1280x1280) ![0, 256 * n] S1280x256.size hw))
    (View.ld x4 (Rect.unit (s := S1x1280) ![0, 256 * n] S1x256.size hs))
    (View.ld x5 (Rect.unit (s := S1x1280) ![0, 256 * n] S1x256.size hs))

theorem zTile_apply (n : Nat) (hn : n < 5) (hw hs) (r : Fin 512) (c : Fin 256) :
    zTile x0 x1 x2 x4 x5 n hw hs (ix2 r c)
      = zv (fun k => x0 (ix2 r k)) (fun k => x1 (ix2 k ⟨256 * n + c.val, by omega⟩))
          (fun k => x2 (ix2 k ⟨256 * n + c.val, by omega⟩)) (x4 (ix2 0 ⟨256 * n + c.val, by omega⟩))
          (x5 (ix2 0 ⟨256 * n + c.val, by omega⟩)) := by
  unfold zTile
  rw [zV_apply, ld_x0]
  pointwise

/-- The columns' products at 128 tokens. -/
theorem slice_apply (n b : Nat) (hn : n < 5) (hb : b < 4) (hw hs) (h : S512x256.Slices ![128 * b, 0] S128x256)
    (i : Fin 128) (c : Fin 256) :
    extractStridedSlice S128x256 ![128 * b, 0] (zTile x0 x1 x2 x4 x5 n hw hs) h (ix2 i c)
      = zv (rows x0 ⟨b, hb⟩ i) (fun k => x1 (ix2 k ⟨256 * n + c.val, by omega⟩))
          (fun k => x2 (ix2 k ⟨256 * n + c.val, by omega⟩)) (x4 (ix2 0 ⟨256 * n + c.val, by omega⟩))
          (x5 (ix2 0 ⟨256 * n + c.val, by omega⟩)) := by
  pointwise
  rw [zTile_apply _ _ _ _ _ _ hn]
  rfl

theorem zcE_at (b : Nat) (hb : b < 4) (i : Fin 128) (c : Fin 1280) :
    zcE x0 x1 x2 x4 x5 (ix2 ⟨128 * b + i.val, by omega⟩ c)
      = zcode (rows x0 ⟨b, hb⟩) (fun k => x1 (ix2 k c)) (fun k => x2 (ix2 k c)) (x4 (ix2 0 c)) (x5 (ix2 0 c)) i := by
  have e1 : (128 * b + i.val) / 128 = b := by omega
  have e2 : (128 * b + i.val) % 128 = i.val := by omega
  show zcode (rows x0 ⟨(128 * b + i.val) / 128, _⟩) (fun k => x1 (ix2 k c)) (fun k => x2 (ix2 k c)) (x4 (ix2 0 c))
    (x5 (ix2 0 c)) ⟨(128 * b + i.val) % 128, _⟩ = _
  simp only [e1, e2]

theorem zc_piece (n b : Nat) (hn : n < 5) (hb : b < 4) (hw hs) (h : S512x256.Slices ![128 * b, 0] S128x256)
    (ho : ∀ a, ![128 * b, 256 * n] a + S128x256.size a ≤ S512x1280.size a) (x : S128x256.Idx) :
    zcV (extractStridedSlice S128x256 ![128 * b, 0] (zTile x0 x1 x2 x4 x5 n hw hs) h) x
      = zcE x0 x1 x2 x4 x5 ((Rect.unit (s := S512x1280) ![128 * b, 256 * n] S128x256.size ho).emb x) := by
  obtain ⟨i, c, rfl⟩ : ∃ (i : Fin 128) (c : Fin 256), x = ix2 i c := ⟨x 0, x 1, eq_ix2 x⟩
  rw [zcV_apply]
  simp only [slice_apply _ _ _ _ _ n b hn hb]
  rw [show (Rect.unit (s := S512x1280) ![128 * b, 256 * n] S128x256.size ho).emb (ix2 i c)
    = ix2 ⟨128 * b + i.val, by omega⟩ ⟨256 * n + c.val, by omega⟩ from
      funext fun a => Fin.ext (by
        rw [ValueKit.rect_emb_unit_val]
        exact match a with | ⟨0, _⟩ => rfl | ⟨1, _⟩ => rfl)]
  rw [zcE_at _ _ _ _ _ b hb]
  rfl

theorem zs_piece (n b : Nat) (hn : n < 5) (hb : b < 4) (hw hs) (h : S512x256.Slices ![128 * b, 0] S128x256)
    (ho : ∀ a, ![0, b, 256 * n] a + S1x1x256.size a ≤ S1x4x1280.size a) (x : S1x1x256.Idx) :
    zsV (extractStridedSlice S128x256 ![128 * b, 0] (zTile x0 x1 x2 x4 x5 n hw hs) h) x
      = zsE x0 x1 x2 x4 x5 ((Rect.unit (s := S1x4x1280) ![0, b, 256 * n] S1x1x256.size ho).emb x) := by
  obtain ⟨c, rfl⟩ : ∃ c : Fin 256, x = ix3 0 0 c :=
    ⟨x 2, (eq_ix3 x).trans (by rw [Fin.fin_one_eq_zero (x 0), Fin.fin_one_eq_zero (x 1)])⟩
  rw [zsV_apply]
  simp only [slice_apply _ _ _ _ _ n b hn hb]
  rw [show (Rect.unit (s := S1x4x1280) ![0, b, 256 * n] S1x1x256.size ho).emb (ix3 0 0 c)
    = ix3 0 ⟨b, hb⟩ ⟨256 * n + c.val, by omega⟩ from
      funext fun a => Fin.ext (by
        rw [ValueKit.rect_emb_unit_val]
        exact match a with | ⟨0, _⟩ => rfl | ⟨1, _⟩ => rfl | ⟨2, _⟩ => rfl)]
  rfl

theorem q_piece (n p h : Nat) (hn : n < 5) (hp : p < 2) (hh : h < 2)
    (hw : ∀ a, ![256 * n, 0] a + S256x1280.size a ≤ S1280x1280.size a)
    (hs : ∀ a, ![256 * n, 0] a + S256x128.size a ≤ S1280x128.size a)
    (h1 : S256x512.Slices ![0, 128 * (2 * p + h)] S256x128) (h2 : S512x1.Slices ![128 * (2 * p + h), 0] S128x1)
    (ho : ∀ a, ![p, h, 256 * n, 0] a + S1x1x256x128.size a ≤ S2x2x1280x128.size a) (x : S1x1x256x128.Idx) :
    qV ![0, 128 * (2 * p + h)] h1 (usRow ![128 * (2 * p + h), 0] h2 (View.ld x0 r0_0)) (View.ld x0 r0_0)
        (View.ld x3 (Rect.unit (s := S1280x1280) ![256 * n, 0] S256x1280.size hw))
        (View.ld x6 (Rect.unit (s := S1280x128) ![256 * n, 0] S256x128.size hs)) x
      = qE x0 x3 x6 ((Rect.unit (s := S2x2x1280x128) ![p, h, 256 * n, 0] S1x1x256x128.size ho).emb x) := by
  obtain ⟨d, l, rfl⟩ : ∃ (d : Fin 256) (l : Fin 128), x = ix4 0 0 d l :=
    ⟨x 2, x 3, (eq_ix4 x).trans (by rw [Fin.fin_one_eq_zero (x 0), Fin.fin_one_eq_zero (x 1)])⟩
  rw [ld_x0, qV_apply ⟨2 * p + h, by omega⟩ h1, usRow_apply ⟨2 * p + h, by omega⟩ h2]
  rw [show (Rect.unit (s := S2x2x1280x128) ![p, h, 256 * n, 0] S1x1x256x128.size ho).emb (ix4 0 0 d l)
    = ix4 ⟨p, hp⟩ ⟨h, hh⟩ ⟨256 * n + d.val, by omega⟩ l from
      funext fun a => Fin.ext (by
        rw [ValueKit.rect_emb_unit_val]
        exact match a with | ⟨0, _⟩ => rfl | ⟨1, _⟩ => rfl | ⟨2, _⟩ => rfl | ⟨3, _⟩ => Nat.zero_add _)]
  unfold qE
  pointwise
  rfl

theorem us_piece (b : Nat) (hb : b < 4) (h : S512x1.Slices ![128 * b, 0] S128x1)
    (ho : ∀ a, ![0, b, 0] a + S1x1x128.size a ≤ S1x4x128.size a) (x : S1x1x128.Idx) :
    shapeCast S1x1x128 (usRow ![128 * b, 0] h (View.ld x0 r0_0)) shapeCasts_S1x128_S1x1x128 x
      = usE x0 ((Rect.unit (s := S1x4x128) ![0, b, 0] S1x1x128.size ho).emb x) := by
  obtain ⟨l, rfl⟩ : ∃ l : Fin 128, x = ix3 0 0 l :=
    ⟨x 2, (eq_ix3 x).trans (by rw [Fin.fin_one_eq_zero (x 0), Fin.fin_one_eq_zero (x 1)])⟩
  rw [ld_x0, show (Rect.unit (s := S1x4x128) ![0, b, 0] S1x1x128.size ho).emb (ix3 0 0 l)
    = ix3 0 ⟨b, hb⟩ l from
      funext fun a => Fin.ext (by
        rw [ValueKit.rect_emb_unit_val]
        exact match a with | ⟨0, _⟩ => rfl | ⟨1, _⟩ => rfl | ⟨2, _⟩ => Nat.zero_add _)]
  pointwise
  rw [usRow_apply ⟨b, hb⟩ h]
  rfl

end Cert.Pieces
-- ==== Proof.Windows.lean ====
/-
  The body's five output windows, whole.
-/
module

public import proofs.«01_k».proof.Proof.Pieces

@[expose] public section

noncomputable section

namespace Cert.Windows

open Idealize.ShloMosaic Cert.KernelIdeal Cert.KernelIdeal.Gen Cert.Pieces

set_option maxRecDepth 16384

variable (x0 : Vec Ideal S512x1280 .bf16) (x1 x2 x3 : Vec Ideal S1280x1280 .fp8e4m3) (x4 x5 : Vec Ideal S1x1280 .f32)
  (x6 : Vec Ideal S1280x128 .f32)

theorem fc {α : Type} {P : α → Prop} {a : α} {l : List α} (h : P a) (t : ∀ p ∈ l, P p) : ∀ p ∈ a :: l, P p :=
  List.forall_mem_cons.2 ⟨h, t⟩

/-- One more store: its payload is `w'`, whose elements are `G`'s. -/
theorem fe {S : Shape} {e : EltTy} {G : S.Idx → Elt Ideal e} {r : Rect S} {w w' : r.shape.Idx → Elt Ideal e}
    {l : List (View.Piece (Elt Ideal) S e)} (h : ∀ x, w' x = G (r.emb x)) (hw : w = w')
    (t : ∀ p ∈ l, ∀ x : p.1.shape.Idx, p.2 x = G (p.1.emb x)) :
    ∀ p ∈ (⟨r, w⟩ :: l : List (View.Piece (Elt Ideal) S e)), ∀ x : p.1.shape.Idx, p.2 x = G (p.1.emb x) :=
  fc (fun x => (congrFun hw x).trans (h x)) t

theorem out7 (y : S512x1280.Idx) : out0_7 x0 x1 x2 x3 x4 x5 x6 y = ucE x0 y := by
  unfold out0_7 k0_pay274
  rw [ld_x0, View.canon_unit_zero (by funext a; exact match a with | ⟨0, _⟩ => rfl | ⟨1, _⟩ => rfl)]
  obtain ⟨r, k, rfl⟩ : ∃ (r : Fin 512) (k : Fin 1280), y = ix2 r k := ⟨y 0, y 1, eq_ix2 y⟩
  exact Block.ucode_apply x0 r k

theorem out8 (y : S1x4x128.Idx) : out0_8 x0 x1 x2 x3 x4 x5 x6 y = usE x0 y := by
  unfold out0_8
  refine View.canon_apply_of_pieces (Val := Elt Ideal) (usE x0) _ ?_ y (cover0_8 _ _ _ _ y)
  exact
    fc (us_piece x0 3 (by omega) (by decide) (by decide)) <|
    fc (us_piece x0 2 (by omega) (by decide) (by decide)) <|
    fc (us_piece x0 1 (by omega) (by decide) (by decide)) <|
    fc (us_piece x0 0 (by omega) (by decide) (by decide)) <|
    fun _ h => absurd h List.not_mem_nil
theorem out9 (y : S512x1280.Idx) : out0_9 x0 x1 x2 x3 x4 x5 x6 y = zcE x0 x1 x2 x4 x5 y := by
  have zc := zc_piece x0 x1 x2 x4 x5
  unfold out0_9
  refine View.canon_apply_of_pieces (Val := Elt Ideal) (zcE x0 x1 x2 x4 x5) _ ?_ y (cover0_9 _ _ _ _ _ _ _ _ _ _ _ _ _ _ _ _ _ _ _ _ y)
  refine fe (zc 4 3 (by omega) (by omega) (by decide) (by decide) (by decide) (by decide)) (by rfl) ?_
  refine fe (zc 4 2 (by omega) (by omega) (by decide) (by decide) (by decide) (by decide)) (by rfl) ?_
  refine fe (zc 4 1 (by omega) (by omega) (by decide) (by decide) (by decide) (by decide)) (by rfl) ?_
  refine fe (zc 4 0 (by omega) (by omega) (by decide) (by decide) (by decide) (by decide)) (by rfl) ?_
  refine fe (zc 3 3 (by omega) (by omega) (by decide) (by decide) (by decide) (by decide)) (by rfl) ?_
  refine fe (zc 3 2 (by omega) (by omega) (by decide) (by decide) (by decide) (by decide)) (by rfl) ?_
  refine fe (zc 3 1 (by omega) (by omega) (by decide) (by decide) (by decide) (by decide)) (by rfl) ?_
  refine fe (zc 3 0 (by omega) (by omega) (by decide) (by decide) (by decide) (by decide)) (by rfl) ?_
  refine fe (zc 2 3 (by omega) (by omega) (by decide) (by decide) (by decide) (by decide)) (by rfl) ?_
  refine fe (zc 2 2 (by omega) (by omega) (by decide) (by decide) (by decide) (by decide)) (by rfl) ?_
  refine fe (zc 2 1 (by omega) (by omega) (by decide) (by decide) (by decide) (by decide)) (by rfl) ?_
  refine fe (zc 2 0 (by omega) (by omega) (by decide) (by decide) (by decide) (by decide)) (by rfl) ?_
  refine fe (zc 1 3 (by omega) (by omega) (by decide) (by decide) (by decide) (by decide)) (by rfl) ?_
  refine fe (zc 1 2 (by omega) (by omega) (by decide) (by decide) (by decide) (by decide)) (by rfl) ?_
  refine fe (zc 1 1 (by omega) (by omega) (by decide) (by decide) (by decide) (by decide)) (by rfl) ?_
  refine fe (zc 1 0 (by omega) (by omega) (by decide) (by decide) (by decide) (by decide)) (by rfl) ?_
  refine fe (zc 0 3 (by omega) (by omega) (by decide) (by decide) (by decide) (by decide)) (by rfl) ?_
  refine fe (zc 0 2 (by omega) (by omega) (by decide) (by decide) (by decide) (by decide)) (by rfl) ?_
  refine fe (zc 0 1 (by omega) (by omega) (by decide) (by decide) (by decide) (by decide)) (by rfl) ?_
  refine fe (zc 0 0 (by omega) (by omega) (by decide) (by decide) (by decide) (by decide)) (by rfl) ?_
  exact fun _ h => absurd h List.not_mem_nil

theorem out10 (y : S1x4x1280.Idx) : out0_10 x0 x1 x2 x3 x4 x5 x6 y = zsE x0 x1 x2 x4 x5 y := by
  have zs := zs_piece x0 x1 x2 x4 x5
  unfold out0_10
  refine View.canon_apply_of_pieces (Val := Elt Ideal) (zsE x0 x1 x2 x4 x5) _ ?_ y (cover0_10 _ _ _ _ _ _ _ _ _ _ _ _ _ _ _ _ _ _ _ _ y)
  refine fe (zs 4 3 (by omega) (by omega) (by decide) (by decide) (by decide) (by decide)) (by rfl) ?_
  refine fe (zs 4 2 (by omega) (by omega) (by decide) (by decide) (by decide) (by decide)) (by rfl) ?_
  refine fe (zs 4 1 (by omega) (by omega) (by decide) (by decide) (by decide) (by decide)) (by rfl) ?_
  refine fe (zs 4 0 (by omega) (by omega) (by decide) (by decide) (by decide) (by decide)) (by rfl) ?_
  refine fe (zs 3 3 (by omega) (by omega) (by decide) (by decide) (by decide) (by decide)) (by rfl) ?_
  refine fe (zs 3 2 (by omega) (by omega) (by decide) (by decide) (by decide) (by decide)) (by rfl) ?_
  refine fe (zs 3 1 (by omega) (by omega) (by decide) (by decide) (by decide) (by decide)) (by rfl) ?_
  refine fe (zs 3 0 (by omega) (by omega) (by decide) (by decide) (by decide) (by decide)) (by rfl) ?_
  refine fe (zs 2 3 (by omega) (by omega) (by decide) (by decide) (by decide) (by decide)) (by rfl) ?_
  refine fe (zs 2 2 (by omega) (by omega) (by decide) (by decide) (by decide) (by decide)) (by rfl) ?_
  refine fe (zs 2 1 (by omega) (by omega) (by decide) (by decide) (by decide) (by decide)) (by rfl) ?_
  refine fe (zs 2 0 (by omega) (by omega) (by decide) (by decide) (by decide) (by decide)) (by rfl) ?_
  refine fe (zs 1 3 (by omega) (by omega) (by decide) (by decide) (by decide) (by decide)) (by rfl) ?_
  refine fe (zs 1 2 (by omega) (by omega) (by decide) (by decide) (by decide) (by decide)) (by rfl) ?_
  refine fe (zs 1 1 (by omega) (by omega) (by decide) (by decide) (by decide) (by decide)) (by rfl) ?_
  refine fe (zs 1 0 (by omega) (by omega) (by decide) (by decide) (by decide) (by decide)) (by rfl) ?_
  refine fe (zs 0 3 (by omega) (by omega) (by decide) (by decide) (by decide) (by decide)) (by rfl) ?_
  refine fe (zs 0 2 (by omega) (by omega) (by decide) (by decide) (by decide) (by decide)) (by rfl) ?_
  refine fe (zs 0 1 (by omega) (by omega) (by decide) (by decide) (by decide) (by decide)) (by rfl) ?_
  refine fe (zs 0 0 (by omega) (by omega) (by decide) (by decide) (by decide) (by decide)) (by rfl) ?_
  exact fun _ h => absurd h List.not_mem_nil

theorem out12 (y : S2x2x1280x128.Idx) : out0_12 x0 x1 x2 x3 x4 x5 x6 y = qE x0 x3 x6 y := by
  have q := q_piece x0 x3 x6
  unfold out0_12
  refine View.canon_apply_of_pieces (Val := Elt Ideal) (qE x0 x3 x6) _ ?_ y (cover0_12 _ _ _ _ _ _ _ _ _ _ _ _ _ _ _ _ _ _ _ _ y)
  exact
    fc (q 4 1 1 (by omega) (by omega) (by omega) (by decide) (by decide) (by decide) (by decide) (by decide)) <|
    fc (q 4 1 0 (by omega) (by omega) (by omega) (by decide) (by decide) (by decide) (by decide) (by decide)) <|
    fc (q 4 0 1 (by omega) (by omega) (by omega) (by decide) (by decide) (by decide) (by decide) (by decide)) <|
    fc (q 4 0 0 (by omega) (by omega) (by omega) (by decide) (by decide) (by decide) (by decide) (by decide)) <|
    fc (q 3 1 1 (by omega) (by omega) (by omega) (by decide) (by decide) (by decide) (by decide) (by decide)) <|
    fc (q 3 1 0 (by omega) (by omega) (by omega) (by decide) (by decide) (by decide) (by decide) (by decide)) <|
    fc (q 3 0 1 (by omega) (by omega) (by omega) (by decide) (by decide) (by decide) (by decide) (by decide)) <|
    fc (q 3 0 0 (by omega) (by omega) (by omega) (by decide) (by decide) (by decide) (by decide) (by decide)) <|
    fc (q 2 1 1 (by omega) (by omega) (by omega) (by decide) (by decide) (by decide) (by decide) (by decide)) <|
    fc (q 2 1 0 (by omega) (by omega) (by omega) (by decide) (by decide) (by decide) (by decide) (by decide)) <|
    fc (q 2 0 1 (by omega) (by omega) (by omega) (by decide) (by decide) (by decide) (by decide) (by decide)) <|
    fc (q 2 0 0 (by omega) (by omega) (by omega) (by decide) (by decide) (by decide) (by decide) (by decide)) <|
    fc (q 1 1 1 (by omega) (by omega) (by omega) (by decide) (by decide) (by decide) (by decide) (by decide)) <|
    fc (q 1 1 0 (by omega) (by omega) (by omega) (by decide) (by decide) (by decide) (by decide) (by decide)) <|
    fc (q 1 0 1 (by omega) (by omega) (by omega) (by decide) (by decide) (by decide) (by decide) (by decide)) <|
    fc (q 1 0 0 (by omega) (by omega) (by omega) (by decide) (by decide) (by decide) (by decide) (by decide)) <|
    fc (q 0 1 1 (by omega) (by omega) (by omega) (by decide) (by decide) (by decide) (by decide) (by decide)) <|
    fc (q 0 1 0 (by omega) (by omega) (by omega) (by decide) (by decide) (by decide) (by decide) (by decide)) <|
    fc (q 0 0 1 (by omega) (by omega) (by omega) (by decide) (by decide) (by decide) (by decide) (by decide)) <|
    fc (q 0 0 0 (by omega) (by omega) (by omega) (by decide) (by decide) (by decide) (by decide) (by decide)) <|
    fun _ h => absurd h List.not_mem_nil
end Cert.Windows
-- ==== Proof.Whole.lean ====
/-
  The five result arrays on the extended reals, as functions of the token rows `X`, the weights and their scales.
-/
module

public import proofs.«01_k».proof.Proof.Spec

@[expose] public section

noncomputable section

namespace Cert.Whole

open Cert.Spec

/-- The `i`th of the 128 rows of block `b`. -/
def rows (X : Fin 30720 → Fin 1280 → EReal) (b : Fin 240) (i : Fin 128) : Fin 1280 → EReal :=
  X ⟨128 * b.val + i.val, by omega⟩

/-- Token codes. -/
def UC (X : Fin 30720 → Fin 1280 → EReal) (r : Fin 30720) (k : Fin 1280) : EReal := ucode (X r) k

/-- Token scales: point `t`, block `b` of its four, row `l`. -/
def US (X : Fin 30720 → Fin 1280 → EReal) (t : Fin 60) (b : Fin 4) (l : Fin 128) : EReal :=
  uscale (rows X ⟨4 * t.val + b.val, by omega⟩ l)

/-- Product codes. -/
def ZC (X : Fin 30720 → Fin 1280 → EReal) (wk wv : Fin 1280 → Fin 1280 → EReal) (sk sv : Fin 1280 → EReal)
    (r : Fin 30720) (d : Fin 1280) : EReal :=
  zcode (rows X ⟨r.val / 128, by omega⟩) (fun k => wk k d) (fun k => wv k d) (sk d) (sv d)
    ⟨r.val % 128, Nat.mod_lt _ (by omega)⟩

/-- Product scales. -/
def ZS (X : Fin 30720 → Fin 1280 → EReal) (wk wv : Fin 1280 → Fin 1280 → EReal) (sk sv : Fin 1280 → EReal)
    (t : Fin 60) (b : Fin 4) (d : Fin 1280) : EReal :=
  zscale (rows X ⟨4 * t.val + b.val, by omega⟩) (fun k => wk k d) (fun k => wv k d) (sk d) (sv d)

/-- The third projection: pair `p` of blocks, half `h`, column `d`, row `l`. -/
def Q (X : Fin 30720 → Fin 1280 → EReal) (wq : Fin 1280 → Fin 1280 → EReal) (s : Fin 1280 → Fin 128 → EReal)
    (p : Fin 120) (h : Fin 2) (d : Fin 1280) (l : Fin 128) : EReal :=
  prj (rows X ⟨2 * p.val + h.val, by omega⟩ l) (fun k => wq k d) (s d l)

end Cert.Whole
-- ==== Proof.Arrays.lean ====
/-
  The kernel's five result arrays after the run, as functions of the region's input arrays.
-/
module

public import proofs.«01_k».proof.Proof.Windows
public import proofs.«01_k».proof.Proof.Whole
public import proofs.«01_k».proof.Proof.Gen.KernelIdeal.Value

@[expose] public section

noncomputable section

namespace Cert.Arrays

open Idealize.ShloMosaic Idealize.ShloMosaic.TcCoe Cert.KernelIdeal Cert.KernelIdeal.Gen Cert.Spec Cert.Whole

set_option maxRecDepth 16384

variable (m : (ℓ : Loc nD τ sig) → Buf (Elt Ideal) ℓ) (c : Dev nD)

/-- The input arrays as the region finds them. -/
def X (r : Fin 30720) (k : Fin 1280) : EReal := V m c main_v0 (ix2 r k)
def Wk (k d : Fin 1280) : EReal := V m c main_v3 (ix2 k d)
def Wv (k d : Fin 1280) : EReal := V m c main_v4 (ix2 k d)
def Wq (k d : Fin 1280) : EReal := V m c main_v2 (ix2 d k)
def sk (d : Fin 1280) : EReal := V m c main_v6 (ix2 0 d)
def sv (d : Fin 1280) : EReal := V m c main_v8 (ix2 0 d)
def sq (d : Fin 1280) (l : Fin 128) : EReal := V m c main_v12 (ix2 d l)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![t.val, 0, 0] := by decide +kernel
theorem idx9 : ∀ t : Fin grid0.N, win0_9.index t = ![t.val, 0] := by decide +kernel
theorem idx10 : ∀ t : Fin grid0.N, win0_10.index t = ![t.val, 0, 0] := by decide +kernel
theorem idx12 : ∀ t : Fin grid0.N, win0_12.index t = ![t.val, 0, 0, 0] := by decide +kernel

theorem tlt (t : Fin cfg0.N) : t.val < 60 := lt_of_lt_of_eq t.isLt N_0

theorem blk0 (t : Fin cfg0.N) (r : Fin 512) (k : Fin 1280) :
    iblk m c 0 t (ix2 r k) = X m c ⟨512 * t.val + r.val, by have := tlt t; omega⟩ k := by
  unfold X
  blk_ext [iblk, idx0 t]

theorem blk1 (t : Fin cfg0.N) (k d : Fin 1280) : iblk m c 1 t (ix2 k d) = Wk m c k d := by
  unfold Wk
  blk_ext [iblk, idx1 t]
theorem blk2 (t : Fin cfg0.N) (k d : Fin 1280) : iblk m c 2 t (ix2 k d) = Wv m c k d := by
  unfold Wv
  blk_ext [iblk, idx2 t]
theorem blk3 (t : Fin cfg0.N) (k d : Fin 1280) : iblk m c 3 t (ix2 d k) = Wq m c k d := by
  unfold Wq
  blk_ext [iblk, idx3 t]
theorem blk4 (t : Fin cfg0.N) (d : Fin 1280) : iblk m c 4 t (ix2 0 d) = sk m c d := by
  unfold sk
  blk_ext [iblk, idx4 t]
theorem blk5 (t : Fin cfg0.N) (d : Fin 1280) : iblk m c 5 t (ix2 0 d) = sv m c d := by
  unfold sv
  blk_ext [iblk, idx5 t]
theorem blk6 (t : Fin cfg0.N) (d : Fin 1280) (l : Fin 128) : iblk m c 6 t (ix2 d l) = sq m c d l := by
  unfold sq
  blk_ext [iblk, idx6 t]

theorem rows_eq (t : Fin cfg0.N) (b : Fin 4) (i : Fin 128) :
    Pieces.rows (iblk m c 0 t) b i = X m c ⟨512 * t.val + (128 * b.val + i.val), by have := tlt t; omega⟩ :=
  funext fun k => blk0 m c t ⟨128 * b.val + i.val, by omega⟩ k

theorem emb7 (t : Fin cfg0.N) (r : Fin 512) (k : Fin 1280) :
    ((cfg0.win 7).blk t).view.emb (ix2 r k) = ix2 ⟨512 * t.val + r.val, by have := tlt t; omega⟩ k := by
  blk_ext [idx7 t]
theorem emb8 (t : Fin cfg0.N) (b : Fin 4) (l : Fin 128) :
    ((cfg0.win 8).blk t).view.emb (ix3 0 b l) = ix3 ⟨t.val, tlt t⟩ b l := by
  blk_ext [idx8 t]
theorem emb9 (t : Fin cfg0.N) (r : Fin 512) (k : Fin 1280) :
    ((cfg0.win 9).blk t).view.emb (ix2 r k) = ix2 ⟨512 * t.val + r.val, by have := tlt t; omega⟩ k := by
  blk_ext [idx9 t]
theorem emb10 (t : Fin cfg0.N) (b : Fin 4) (d : Fin 1280) :
    ((cfg0.win 10).blk t).view.emb (ix3 0 b d) = ix3 ⟨t.val, tlt t⟩ b d := by
  blk_ext [idx10 t]
theorem emb12 (t : Fin cfg0.N) (p h : Fin 2) (d : Fin 1280) (l : Fin 128) :
    ((cfg0.win 12).blk t).view.emb (ix4 p h d l) = ix4 ⟨2 * t.val + p.val, by have := tlt t; omega⟩ h d l := by
  blk_ext [idx12 t]

/-- The codes of the tokens. -/
def G7 : S30720x1280.Idx → EReal := fun y => UC (X m c) (y 0) (y 1)
def G8 : S60x4x128.Idx → EReal := fun y => US (X m c) (y 0) (y 1) (y 2)
def G9 : S30720x1280.Idx → EReal := fun y => ZC (X m c) (Wk m c) (Wv m c) (sk m c) (sv m c) (y 0) (y 1)
def G10 : S60x4x1280.Idx → EReal := fun y => ZS (X m c) (Wk m c) (Wv m c) (sk m c) (sv m c) (y 0) (y 1) (y 2)
def G12 : S120x2x1280x128.Idx → EReal := fun y => Q (X m c) (Wq m c) (sq m c) (y 0) (y 1) (y 2) (y 3)

theorem Xcongr {a b : Nat} (ha : a < 30720) (hb : b < 30720) (h : a = b) : X m c ⟨a, ha⟩ = X m c ⟨b, hb⟩ := by
  subst h; rfl

/-- The 128 tokens of block `b` of point `t`'s tile. -/
theorem rows_tile (t : Fin cfg0.N) (b : Fin 4) :
    Pieces.rows (iblk m c 0 t) b = Whole.rows (X m c) ⟨4 * t.val + b.val, by have := tlt t; omega⟩ :=
  funext fun i => (rows_eq m c t b i).trans (Xcongr m c _ _ (by show _ = 128 * (4 * t.val + b.val) + i.val; omega))

theorem final7 : (dats m 0 c).arrAt 7 cfg0.N = G7 m c := by
  refine (dats m 0 c).arrAt_eq_of_covers 7 _ (by decide +kernel) fun t hf y => ?_
  blk_simp
  rw [after0_7]
  obtain ⟨r, k, rfl⟩ : ∃ (r : Fin 512) (k : Fin 1280), y = ix2 r k := ⟨y 0, y 1, eq_ix2 y⟩
  refine (Windows.out7 ..).trans (.trans ?_ (congrArg (G7 m c) (emb7 t r k)).symm)
  show ucode (fun k => iblk m c 0 t (ix2 r k)) k = ucode (X m c _) k
  exact congrArg (ucode · k) (funext fun k => blk0 m c t r k)

theorem final8 : (dats m 0 c).arrAt 8 cfg0.N = G8 m c := by
  refine (dats m 0 c).arrAt_eq_of_covers 8 _ (by decide +kernel) fun t hf y => ?_
  blk_simp
  rw [after0_8]
  obtain ⟨b, l, rfl⟩ : ∃ (b : Fin 4) (l : Fin 128), y = ix3 0 b l :=
    ⟨y 1, y 2, (eq_ix3 y).trans (by rw [Fin.fin_one_eq_zero (y 0)])⟩
  refine (Windows.out8 ..).trans (.trans ?_ (congrArg (G8 m c) (emb8 t b l)).symm)
  show uscale (Pieces.rows (iblk m c 0 t) b l) = uscale (Whole.rows (X m c) _ l)
  rw [rows_tile]
  rfl

theorem final9 : (dats m 0 c).arrAt 9 cfg0.N = G9 m c := by
  refine (dats m 0 c).arrAt_eq_of_covers 9 _ (by decide +kernel) fun t hf y => ?_
  blk_simp
  rw [after0_9]
  obtain ⟨r, d, rfl⟩ : ∃ (r : Fin 512) (d : Fin 1280), y = ix2 r d := ⟨y 0, y 1, eq_ix2 y⟩
  refine (Windows.out9 ..).trans (.trans ?_ (congrArg (G9 m c) (emb9 t r d)).symm)
  show zcode (Pieces.rows (iblk m c 0 t) ⟨r.val / 128, _⟩) (fun k => iblk m c 1 t (ix2 k d)) (fun k => iblk m c 2 t (ix2 k d))
      (iblk m c 4 t (ix2 0 d)) (iblk m c 5 t (ix2 0 d)) ⟨r.val % 128, _⟩
    = zcode (Whole.rows (X m c) ⟨(512 * t.val + r.val) / 128, _⟩) (fun k => Wk m c k d) (fun k => Wv m c k d) (sk m c d)
      (sv m c d) ⟨(512 * t.val + r.val) % 128, _⟩
  have e1 : (512 * t.val + r.val) / 128 = 4 * t.val + r.val / 128 := by omega
  have e2 : (512 * t.val + r.val) % 128 = r.val % 128 := by omega
  simp only [e1, e2, rows_tile, blk1, blk2, blk4, blk5]

theorem final10 : (dats m 0 c).arrAt 10 cfg0.N = G10 m c := by
  refine (dats m 0 c).arrAt_eq_of_covers 10 _ (by decide +kernel) fun t hf y => ?_
  blk_simp
  rw [after0_10]
  obtain ⟨b, d, rfl⟩ : ∃ (b : Fin 4) (d : Fin 1280), y = ix3 0 b d :=
    ⟨y 1, y 2, (eq_ix3 y).trans (by rw [Fin.fin_one_eq_zero (y 0)])⟩
  refine (Windows.out10 ..).trans (.trans ?_ (congrArg (G10 m c) (emb10 t b d)).symm)
  show zscale (Pieces.rows (iblk m c 0 t) b) (fun k => iblk m c 1 t (ix2 k d)) (fun k => iblk m c 2 t (ix2 k d))
      (iblk m c 4 t (ix2 0 d)) (iblk m c 5 t (ix2 0 d))
    = zscale (Whole.rows (X m c) ⟨4 * t.val + b.val, _⟩) (fun k => Wk m c k d) (fun k => Wv m c k d) (sk m c d) (sv m c d)
  simp only [rows_tile, blk1, blk2, blk4, blk5]

theorem final12 : (dats m 0 c).arrAt 12 cfg0.N = G12 m c := by
  refine (dats m 0 c).arrAt_eq_of_covers 12 _ (by decide +kernel) fun t hf y => ?_
  blk_simp
  rw [after0_12]
  obtain ⟨p, h, d, l, rfl⟩ : ∃ (p h : Fin 2) (d : Fin 1280) (l : Fin 128), y = ix4 p h d l :=
    ⟨y 0, y 1, y 2, y 3, eq_ix4 y⟩
  refine (Windows.out12 ..).trans (.trans ?_ (congrArg (G12 m c) (emb12 t p h d l)).symm)
  show prj (Pieces.rows (iblk m c 0 t) ⟨2 * p.val + h.val, _⟩ l) (fun k => iblk m c 3 t (ix2 d k)) (iblk m c 6 t (ix2 d l))
    = prj (Whole.rows (X m c) ⟨2 * (2 * t.val + p.val) + h.val, _⟩ l) (fun k => Wq m c k d) (sq m c d l)
  have e : 2 * (2 * t.val + p.val) + h.val = 4 * t.val + (2 * p.val + h.val) := by omega
  simp only [e, rows_tile, blk3, blk6]

end Cert.Arrays
-- ==== Proof.EntryKernel.lean ====
/-
  The arrays the kernel's call is given, in terms of the four arguments.
-/
module

public import proofs.«01_k».proof.Proof.Arrays

@[expose] public section

noncomputable section

namespace Cert.EntryKernel

open Idealize.ShloMosaic Idealize.ShloMosaic.TcCoe Cert.KernelIdeal Cert.KernelIdeal.Gen

set_option maxRecDepth 16384

variable (m : (ℓ : Loc nD τ sig) → Buf (Elt Ideal) ℓ) (c : Dev nD)

/-- The arguments. -/
def a0 : Vec Ideal S2x15360x1280 .bf16 := m ((c.tc : Thread nD τ).loc main_arg0)
def a1 : Vec Ideal S1280x3840 .fp8e4m3 := m ((c.tc : Thread nD τ).loc main_arg1)
def a2 : Vec Ideal S3840 .f32 := m ((c.tc : Thread nD τ).loc main_arg2)
def a3 : Vec Ideal S1280 .f32 := m ((c.tc : Thread nD τ).loc main_arg3)

theorem X_eq (r : Fin 30720) (k : Fin 1280) :
    Arrays.X m c r k = a0 m c (ix3 ⟨r.val / 15360, by omega⟩ ⟨r.val % 15360, Nat.mod_lt _ (by omega)⟩ k) := by
  unfold Arrays.X a0
  entry_read
  pointwise

theorem Wk_eq (k d : Fin 1280) : Arrays.Wk m c k d = a1 m c (ix2 k ⟨1280 + d.val, by omega⟩) := by
  unfold Arrays.Wk a1
  entry_read
  pointwise

theorem Wv_eq (k d : Fin 1280) : Arrays.Wv m c k d = a1 m c (ix2 k ⟨2560 + d.val, by omega⟩) := by
  unfold Arrays.Wv a1
  entry_read
  pointwise

theorem Wq_eq (k d : Fin 1280) : Arrays.Wq m c k d = a1 m c (ix2 k ⟨d.val, by omega⟩) := by
  unfold Arrays.Wq a1
  entry_read
  pointwise

theorem sk_eq (d : Fin 1280) : Arrays.sk m c d = a2 m c (ix1 ⟨1280 + d.val, by omega⟩) := by
  unfold Arrays.sk a2
  entry_read
  pointwise

theorem sv_eq (d : Fin 1280) : Arrays.sv m c d = a2 m c (ix1 ⟨2560 + d.val, by omega⟩) := by
  unfold Arrays.sv a2
  entry_read
  pointwise

theorem sq_eq (d : Fin 1280) (l : Fin 128) :
    Arrays.sq m c d l = (a2 m c (ix1 ⟨d.val, by omega⟩) * a3 m c (ix1 d) : EReal) := by
  unfold Arrays.sq a2 a3
  entry_read
  pointwise

end Cert.EntryKernel
-- ==== Proof.RefBlock.lean ====
/-
  The reference's operations on the whole arrays, read at an index.
-/
module

public import proofs.«01_k».proof.Proof.Whole
public import proofs.«01_k».proof.Proof.Generic
public import proofs.«01_k».proof.Proof.Gen.ReferenceIdeal.Frame
public import Idealize.ShloMosaic.Lib.Pipeline.ValueKit

@[expose] public section

noncomputable section

open scoped BigOperators

namespace Cert.RefBlock

open Idealize.ShloMosaic Cert.ReferenceIdeal Cert.ReferenceIdeal.Gen Cert.Scale Cert.Spec Cert.Whole Cert.Generic

set_option maxRecDepth 16384

variable (x : Vec Ideal S30720x1280 .bf16) (w : Vec Ideal S1280x3840 .fp8e4m3) (s : Vec Ideal S1x3840 .f32)
  (h : Vec Ideal S1x1280 .f32)

/-- The tokens' rows. -/
def X (r : Fin 30720) (k : Fin 1280) : EReal := x (ix2 r k)

/-- The rows' largest magnitudes. -/
def rowMax (v : FVec Ideal S30720x1280 .f32) : FVec Ideal S30720x1 .f32 :=
  shapeCast S30720x1 (multiReduction .maximumf [1] S30720 v 0xFF800000#32 reduces_S30720x1280_S30720
    (.inl rfl) rfl) shapeCasts_S30720_S30720x1

theorem rowMax_apply (v : FVec Ideal S30720x1280 .f32) (r : Fin 30720) :
    rowMax v (ix2 r 0) = Finset.fold max ⊥ (fun k => v (ix2 r k)) Finset.univ := by
  unfold rowMax
  pointwise
  rw [negInf_f32]

theorem k0_pay2_apply (r : Fin 30720) (k : Fin 1280) : k0_pay2 (F := Ideal) x (ix2 r k) = X x r k := by
  unfold k0_pay2
  pointwise
  rfl

theorem pay3_eq : k0_pay3 (F := Ideal) x
    = expV (mulf (rowMax (absf (k0_pay2 x))) (broadcast S30720x1 (Scalar.ofBits .f32 0x3B124925#32))) := rfl

theorem uexpo (r : Fin 30720) : k0_pay3 (F := Ideal) x (ix2 r 0) = expo (amax (X x r)) := by
  rw [pay3_eq, exp_at (rowMax_apply _ r), amax]
  exact congrArg (fun f : Fin 1280 → EReal => expo (Finset.fold max ⊥ f Finset.univ * c448))
    (funext fun k => abs_at (k0_pay2_apply x r k))

theorem pay4_eq : k0_pay4 (F := Ideal) x = scaleV (k0_pay3 x) := rfl

theorem uscale_apply (r : Fin 30720) : k0_pay4 (F := Ideal) x (ix2 r 0) = uscale (X x r) := by
  rw [pay4_eq, scaleV_apply _ _ _ (uexpo x r), uscale]

/-- A column laid over the rows. -/
theorem over (e : FVec Ideal S30720x1 .f32) (r : Fin 30720) (k : Fin 1280) :
    broadcastTo S30720x1280 e broadcasts_S30720x1_S30720x1280 (ix2 r k) = e (ix2 r 0) := by
  pointwise

theorem pay5_eq : k0_pay5 (F := Ideal) x
    = clipV (mulf (k0_pay2 x) (broadcastTo S30720x1280 (invV (k0_pay3 x)) broadcasts_S30720x1_S30720x1280)) := rfl

theorem ucode_apply (r : Fin 30720) (k : Fin 1280) : k0_pay5 (F := Ideal) x (ix2 r k) = ucode (X x r) k := by
  rw [pay5_eq, clipV_apply, ucode, mul_at (k0_pay2_apply x r k) ((over _ r k).trans (invV_apply _ _ _ (uexpo x r)))]

theorem us_apply (t : Fin 60) (b : Fin 4) (l : Fin 128) :
    k0_pay6 (F := Ideal) x (ix3 t b l) = US (X x) t b l := by
  unfold k0_pay6
  pointwise
  refine (uscale_apply x _).trans ?_
  unfold US rows
  refine congrArg (fun r => uscale (X x r)) (Fin.ext ?_)
  show t.val * 512 + b.val * 128 + l.val = 128 * (4 * t.val + b.val) + l.val
  omega

/-- All three projections. -/
def qkv : FVec Ideal S30720x3840 .f32 := k0_pay9 (k0_pay7 x w) (k0_pay8 x) s

theorem qkv_apply (r : Fin 30720) (d : Fin 3840) :
    qkv x w s (ix2 r d) = prj (X x r) (fun k => w (ix2 k d)) (s (ix2 0 d)) := by
  unfold qkv k0_pay9 k0_pay8 k0_pay7
  pointwise
  simp only [ucode_apply, uscale_apply]
  rfl

/-- The keys' and the values' columns of the weights and of their scales. -/
def wk (k d : Fin 1280) : EReal := w (ix2 k ⟨1280 + d, by omega⟩)
def wv (k d : Fin 1280) : EReal := w (ix2 k ⟨2560 + d, by omega⟩)
def wq (k d : Fin 1280) : EReal := w (ix2 k ⟨d, by omega⟩)
def sk (d : Fin 1280) : EReal := s (ix2 0 ⟨1280 + d, by omega⟩)
def sv (d : Fin 1280) : EReal := s (ix2 0 ⟨2560 + d, by omega⟩)
def sq (d : Fin 1280) : EReal := s (ix2 0 ⟨d, by omega⟩)

/-- The product of the second and third projections. -/
def z : FVec Ideal S240x128x1280 .f32 := k0_pay10 (k0_pay7 x w) (k0_pay8 x) s

/-- The value of the products of block `b`, row `i`, column `d`. -/
def zAt (b : Fin 240) (i : Fin 128) (d : Fin 1280) : EReal :=
  zv (rows (X x) b i) (fun k => wk w k d) (fun k => wv w k d) (sk s d) (sv s d)

theorem z_apply (b : Fin 240) (i : Fin 128) (d : Fin 1280) : z x w s (ix3 b i d) = zAt x w s b i d := by
  unfold z k0_pay10
  pointwise
  have hr : (⟨b.val * 128 + i.val, by omega⟩ : Fin 30720) = ⟨128 * b.val + i.val, by omega⟩ :=
    Fin.ext (by show b.val * 128 + i.val = 128 * b.val + i.val; omega)
  have h1 := qkv_apply x w s ⟨b.val * 128 + i.val, by omega⟩ ⟨1280 + d, by omega⟩
  have h2 := qkv_apply x w s ⟨b.val * 128 + i.val, by omega⟩ ⟨2560 + d, by omega⟩
  rw [qkv] at h1 h2
  rw [hr] at h1 h2 ⊢
  refine (congrArg₂ (· * ·) h1 h2).trans ?_
  unfold zAt zv
  rfl

/-- The columns' largest magnitudes over each block of rows. -/
def blockMax (v : FVec Ideal S240x128x1280 .f32) : FVec Ideal S240x1x1280 .f32 :=
  shapeCast S240x1x1280 (multiReduction .maximumf [1] S240x1280 v 0xFF800000#32 reduces_S240x128x1280_S240x1280
    (.inl rfl) rfl) shapeCasts_S240x1280_S240x1x1280

theorem blockMax_apply (v : FVec Ideal S240x128x1280 .f32) (b : Fin 240) (d : Fin 1280) :
    blockMax v (ix3 b 0 d) = Finset.fold max ⊥ (fun i : Fin 128 => v (ix3 b i d)) Finset.univ := by
  unfold blockMax
  pointwise
  rw [negInf_f32]

/-- The exponents of the blocks' columns. -/
def ze : FVec Ideal S240x1x1280 .f32 := k0_pay11 (k0_pay7 x w) (k0_pay8 x) s

theorem ze_eq : ze x w s
    = expV (mulf (blockMax (absf (z x w s))) (broadcast S240x1x1280 (Scalar.ofBits .f32 0x3B124925#32))) := rfl

theorem zexpo (b : Fin 240) (d : Fin 1280) :
    ze x w s (ix3 b 0 d) = expo (amax fun i : Fin 128 => zAt x w s b i d) := by
  rw [ze_eq, exp_at (blockMax_apply _ b d), amax]
  exact congrArg (fun f : Fin 128 → EReal => expo (Finset.fold max ⊥ f Finset.univ * c448))
    (funext fun i => abs_at (z_apply x w s b i d))

/-- A block's row of columns laid over its rows. -/
theorem overBlock (e : FVec Ideal S240x1x1280 .f32) (b : Fin 240) (i : Fin 128) (d : Fin 1280) :
    broadcastTo S240x128x1280 e broadcasts_S240x1x1280_S240x128x1280 (ix3 b i d) = e (ix3 b 0 d) := by
  pointwise

theorem pay12_eq : k0_pay12 (k0_pay7 x w) (k0_pay8 x) s
    = shapeCast S30720x1280
        (clipV (mulf (z x w s) (broadcastTo S240x128x1280 (invV (ze x w s)) broadcasts_S240x1x1280_S240x128x1280)))
        shapeCasts_S240x128x1280_S30720x1280 := rfl

/-- The blocks laid out again as rows. -/
theorem flat (v : FVec Ideal S240x128x1280 .fp8e4m3) (r : Fin 30720) (d : Fin 1280) :
    shapeCast S30720x1280 v shapeCasts_S240x128x1280_S30720x1280 (ix2 r d)
      = v (ix3 ⟨r.val / 128, by omega⟩ ⟨r.val % 128, by omega⟩ d) := by
  pointwise

theorem zc_apply (r : Fin 30720) (d : Fin 1280) :
    k0_pay12 (k0_pay7 x w) (k0_pay8 x) s (ix2 r d)
      = ZC (X x) (wk w) (wv w) (sk s) (sv s) r d := by
  rw [pay12_eq, flat, clipV_apply,
    mul_at (z_apply x w s _ _ d) ((overBlock _ _ _ d).trans (invV_apply _ _ _ (zexpo x w s _ d))), ZC, zcode]
  rfl

theorem pay13_eq : k0_pay13 (k0_pay7 x w) (k0_pay8 x) s
    = shapeCast S60x4x1280 (scaleV (ze x w s)) shapeCasts_S240x1x1280_S60x4x1280 := rfl

/-- The blocks' scales in groups of four. -/
theorem grouped (v : FVec Ideal S240x1x1280 .f32) (t : Fin 60) (b : Fin 4) (d : Fin 1280) :
    shapeCast S60x4x1280 v shapeCasts_S240x1x1280_S60x4x1280 (ix3 t b d)
      = v (ix3 ⟨4 * t.val + b.val, by omega⟩ 0 d) := by
  pointwise
  refine congrArg v ?_
  refine congrArg (fun b => ix3 b 0 d) (Fin.ext ?_)
  show t.val * 4 + b.val = 4 * t.val + b.val
  omega

theorem zs_apply (t : Fin 60) (b : Fin 4) (d : Fin 1280) :
    k0_pay13 (k0_pay7 x w) (k0_pay8 x) s (ix3 t b d)
      = ZS (X x) (wk w) (wv w) (sk s) (sv s) t b d := by
  rw [pay13_eq, grouped, scaleV_apply _ _ _ (zexpo x w s _ d), ZS, zscale]
  rfl

/-- The first projection times the columns' factor, heads and tokens transposed. -/
theorem q_apply (p : Fin 120) (hh : Fin 2) (d : Fin 1280) (l : Fin 128) :
    k0_pay1 (qkv x w s) h (ix4 p hh d l)
      = Q (X x) (wq w) (fun d _ => sq s d * h (ix2 0 d)) p hh d l := by
  unfold k0_pay1
  pointwise
  have hr : (⟨p.val * 256 + hh.val * 128 + l.val, by omega⟩ : Fin 30720)
      = ⟨128 * (2 * p.val + hh.val) + l.val, by omega⟩ :=
    Fin.ext (by show p.val * 256 + hh.val * 128 + l.val = 128 * (2 * p.val + hh.val) + l.val; omega)
  rw [hr, qkv_apply]
  unfold Q prj
  exact mul_assoc _ _ _

end Cert.RefBlock
-- ==== Proof.RefArrays.lean ====
/-
  The reference's run and the five arrays it leaves, as functions of the arrays its one call is given.
-/
module

public import proofs.«01_k».proof.Proof.RefBlock
public import Idealize.ShloMosaic.Lib.Pipeline.Value

@[expose] public section

noncomputable section

/-! ## The run -/

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_4) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_v3_4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      post8 m r h c,
      kept_main_arg0 m r h c,
      kept_main_arg1 m r h c,
      kept_main_arg2 m r h c,
      kept_main_arg3 m r h c⟩)
    (run_main m ρ)

end Cert.RefRun

/-! ## The arrays -/

namespace Cert.RefArrays

open Idealize.ShloMosaic Idealize.ShloMosaic.TcCoe Cert.ReferenceIdeal Cert.ReferenceIdeal.Gen Cert.Spec Cert.Whole

set_option maxRecDepth 16384

variable (m : (ℓ : Loc nD τ sig) → Buf (Elt Ideal) ℓ) (c : Dev nD)

/-- The input arrays as the call finds them. -/
def x : Vec Ideal S30720x1280 .bf16 := V m c main_v0
def w : Vec Ideal S1280x3840 .fp8e4m3 := V m c main_arg1
def s : Vec Ideal S1x3840 .f32 := V m c main_v1
def h : Vec Ideal S1x1280 .f32 := V m c main_v2

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0, 0] := by decide +kernel
theorem idx6 : ∀ t : Fin grid0.N, win0_6.index t = ![0, 0] := by decide +kernel
theorem idx7 : ∀ t : Fin grid0.N, win0_7.index t = ![0, 0, 0] := by decide +kernel
theorem idx8 : ∀ t : Fin grid0.N, win0_8.index t = ![0, 0, 0, 0] := by decide +kernel

theorem blk0 (t : Fin cfg0.N) : iblk m c 0 t = x m c := by
  funext y
  obtain ⟨i, j, rfl⟩ : ∃ (i : Fin 30720) (j : Fin 1280), y = ix2 i j := ⟨y 0, y 1, eq_ix2 y⟩
  unfold x
  blk_ext [iblk, idx0 t]
theorem blk1 (t : Fin cfg0.N) : iblk m c 1 t = w m c := by
  funext y
  obtain ⟨i, j, rfl⟩ : ∃ (i : Fin 1280) (j : Fin 3840), y = ix2 i j := ⟨y 0, y 1, eq_ix2 y⟩
  unfold w
  blk_ext [iblk, idx1 t]
theorem blk2 (t : Fin cfg0.N) : iblk m c 2 t = s m c := by
  funext y
  obtain ⟨i, j, rfl⟩ : ∃ (i : Fin 1) (j : Fin 3840), y = ix2 i j := ⟨y 0, y 1, eq_ix2 y⟩
  unfold s
  blk_ext [iblk, idx2 t]
theorem blk3 (t : Fin cfg0.N) : iblk m c 3 t = h m c := by
  funext y
  obtain ⟨i, j, rfl⟩ : ∃ (i : Fin 1) (j : Fin 1280), y = ix2 i j := ⟨y 0, y 1, eq_ix2 y⟩
  unfold h
  blk_ext [iblk, idx3 t]

theorem ld_x (v : Vec Ideal S30720x1280 .bf16) : View.ld (Val := Elt Ideal) v r0_0 = v := View.ld_unit_lit _ v (by decide)
theorem ld_w (v : Vec Ideal S1280x3840 .fp8e4m3) : View.ld (Val := Elt Ideal) v r0_2 = v := View.ld_unit_lit _ v (by decide)
theorem ld_s (v : Vec Ideal S1x3840 .f32) : View.ld (Val := Elt Ideal) v r0_3 = v := View.ld_unit_lit _ v (by decide)
theorem ld_h (v : Vec Ideal S1x1280 .f32) : View.ld (Val := Elt Ideal) v r0_5 = v := View.ld_unit_lit _ v (by decide)

variable (x0 : Vec Ideal S30720x1280 .bf16) (w0 : Vec Ideal S1280x3840 .fp8e4m3) (s0 : Vec Ideal S1x3840 .f32)
  (h0 : Vec Ideal S1x1280 .f32)

theorem out4 : out0_4 x0 w0 s0 h0 = k0_pay5 x0 := by
  unfold out0_4
  rw [View.canon_unit_zero (by decide), ld_x]
theorem out5 : out0_5 x0 w0 s0 h0 = k0_pay6 x0 := by
  unfold out0_5
  rw [View.canon_unit_zero (by decide), ld_x]
theorem out6 : out0_6 x0 w0 s0 h0 = k0_pay12 (k0_pay7 x0 w0) (k0_pay8 x0) s0 := by
  unfold out0_6 k0_pay14 k0_pay15
  rw [View.canon_unit_zero (by decide), ld_x, ld_w, ld_s]
theorem out7 : out0_7 x0 w0 s0 h0 = k0_pay13 (k0_pay7 x0 w0) (k0_pay8 x0) s0 := by
  unfold out0_7 k0_pay14 k0_pay15
  rw [View.canon_unit_zero (by decide), ld_x, ld_w, ld_s]
theorem out8 : out0_8 x0 w0 s0 h0 = k0_pay1 (RefBlock.qkv x0 w0 s0) h0 := by
  unfold out0_8 k0_pay14 k0_pay15 RefBlock.qkv
  rw [View.canon_unit_zero (by decide), ld_x, ld_w, ld_s, ld_h]

theorem emb4 (t : Fin cfg0.N) (i : Fin 30720) (j : Fin 1280) : ((cfg0.win 4).blk t).view.emb (ix2 i j) = ix2 i j := by
  blk_ext [idx4 t]
theorem emb5 (t : Fin cfg0.N) (i : Fin 60) (j : Fin 4) (k : Fin 128) : ((cfg0.win 5).blk t).view.emb (ix3 i j k) = ix3 i j k := by
  blk_ext [idx5 t]
theorem emb6 (t : Fin cfg0.N) (i : Fin 30720) (j : Fin 1280) : ((cfg0.win 6).blk t).view.emb (ix2 i j) = ix2 i j := by
  blk_ext [idx6 t]
theorem emb7 (t : Fin cfg0.N) (i : Fin 60) (j : Fin 4) (k : Fin 1280) : ((cfg0.win 7).blk t).view.emb (ix3 i j k) = ix3 i j k := by
  blk_ext [idx7 t]
theorem emb8 (t : Fin cfg0.N) (i : Fin 120) (j : Fin 2) (k : Fin 1280) (l : Fin 128) : ((cfg0.win 8).blk t).view.emb (ix4 i j k l) = ix4 i j k l := by
  blk_ext [idx8 t]

/-- What the arrays hold. -/
def G4 : S30720x1280.Idx → EReal := fun y => UC (RefBlock.X (x m c)) (y 0) (y 1)
def G5 : S60x4x128.Idx → EReal := fun y => US (RefBlock.X (x m c)) (y 0) (y 1) (y 2)
def G6 : S30720x1280.Idx → EReal := fun y => ZC (RefBlock.X (x m c)) (RefBlock.wk (w m c)) (RefBlock.wv (w m c)) (RefBlock.sk (s m c)) (RefBlock.sv (s m c)) (y 0) (y 1)
def G7 : S60x4x1280.Idx → EReal := fun y => ZS (RefBlock.X (x m c)) (RefBlock.wk (w m c)) (RefBlock.wv (w m c)) (RefBlock.sk (s m c)) (RefBlock.sv (s m c)) (y 0) (y 1) (y 2)
def G8 : S120x2x1280x128.Idx → EReal := fun y => Q (RefBlock.X (x m c)) (RefBlock.wq (w m c)) (fun d _ => RefBlock.sq (s m c) d * h m c (ix2 0 d)) (y 0) (y 1) (y 2) (y 3)

theorem final4 : (dats m 0 c).arrAt 4 cfg0.N = G4 m c := by
  refine (dats m 0 c).arrAt_eq_of_covers 4 _ (by decide +kernel) fun t hf y => ?_
  blk_simp
  rw [after0_4, blk0, blk1, blk2, blk3, out4]
  obtain ⟨i, j, rfl⟩ : ∃ (i : Fin 30720) (j : Fin 1280), y = ix2 i j := ⟨y 0, y 1, eq_ix2 y⟩
  refine Eq.trans ?_ (congrArg (G4 m c) (emb4 t i j)).symm
  exact RefBlock.ucode_apply _ i j

theorem final5 : (dats m 0 c).arrAt 5 cfg0.N = G5 m c := by
  refine (dats m 0 c).arrAt_eq_of_covers 5 _ (by decide +kernel) fun t hf y => ?_
  blk_simp
  rw [after0_5, blk0, blk1, blk2, blk3, out5]
  obtain ⟨i, j, k, rfl⟩ : ∃ (i : Fin 60) (j : Fin 4) (k : Fin 128), y = ix3 i j k := ⟨y 0, y 1, y 2, eq_ix3 y⟩
  refine Eq.trans ?_ (congrArg (G5 m c) (emb5 t i j k)).symm
  exact RefBlock.us_apply _ i j k

theorem final6 : (dats m 0 c).arrAt 6 cfg0.N = G6 m c := by
  refine (dats m 0 c).arrAt_eq_of_covers 6 _ (by decide +kernel) fun t hf y => ?_
  blk_simp
  rw [after0_6, blk0, blk1, blk2, blk3, out6]
  obtain ⟨i, j, rfl⟩ : ∃ (i : Fin 30720) (j : Fin 1280), y = ix2 i j := ⟨y 0, y 1, eq_ix2 y⟩
  refine Eq.trans ?_ (congrArg (G6 m c) (emb6 t i j)).symm
  exact RefBlock.zc_apply _ _ _ i j

theorem final7 : (dats m 0 c).arrAt 7 cfg0.N = G7 m c := by
  refine (dats m 0 c).arrAt_eq_of_covers 7 _ (by decide +kernel) fun t hf y => ?_
  blk_simp
  rw [after0_7, blk0, blk1, blk2, blk3, out7]
  obtain ⟨i, j, k, rfl⟩ : ∃ (i : Fin 60) (j : Fin 4) (k : Fin 1280), y = ix3 i j k := ⟨y 0, y 1, y 2, eq_ix3 y⟩
  refine Eq.trans ?_ (congrArg (G7 m c) (emb7 t i j k)).symm
  exact RefBlock.zs_apply _ _ _ i j k

theorem final8 : (dats m 0 c).arrAt 8 cfg0.N = G8 m c := by
  refine (dats m 0 c).arrAt_eq_of_covers 8 _ (by decide +kernel) fun t hf y => ?_
  blk_simp
  rw [after0_8, blk0, blk1, blk2, blk3, out8]
  obtain ⟨i, j, k, l, rfl⟩ : ∃ (i : Fin 120) (j : Fin 2) (k : Fin 1280) (l : Fin 128), y = ix4 i j k l := ⟨y 0, y 1, y 2, y 3, eq_ix4 y⟩
  refine Eq.trans ?_ (congrArg (G8 m c) (emb8 t i j k l)).symm
  exact RefBlock.q_apply _ _ _ _ i j k l

end Cert.RefArrays
-- ==== Proof.EntryReference.lean ====
/-
  The arrays the reference's call is given, in terms of the four arguments.
-/
module

public import proofs.«01_k».proof.Proof.RefArrays
public import Idealize.ShloMosaic.Lib.Pipeline.ValueKit

@[expose] public section

noncomputable section

namespace Cert.EntryReference

open Idealize.ShloMosaic Idealize.ShloMosaic.TcCoe Cert.ReferenceIdeal Cert.ReferenceIdeal.Gen

set_option maxRecDepth 16384

variable (m : (ℓ : Loc nD τ sig) → Buf (Elt Ideal) ℓ) (c : Dev nD)

/-- The arguments. -/
def a0 : Vec Ideal S2x15360x1280 .bf16 := m ((c.tc : Thread nD τ).loc main_arg0)
def a1 : Vec Ideal S1280x3840 .fp8e4m3 := m ((c.tc : Thread nD τ).loc main_arg1)
def a2 : Vec Ideal S3840 .f32 := m ((c.tc : Thread nD τ).loc main_arg2)
def a3 : Vec Ideal S1280 .f32 := m ((c.tc : Thread nD τ).loc main_arg3)

theorem x_eq (r : Fin 30720) (k : Fin 1280) :
    RefArrays.x m c (ix2 r k) = a0 m c (ix3 ⟨r.val / 15360, by omega⟩ ⟨r.val % 15360, Nat.mod_lt _ (by omega)⟩ k) := by
  unfold RefArrays.x a0
  entry_read
  pointwise

theorem w_eq : RefArrays.w m c = a1 m c := V_main_arg1 m c

theorem s_eq (d : Fin 3840) : RefArrays.s m c (ix2 0 d) = a2 m c (ix1 d) := by
  unfold RefArrays.s a2
  entry_read
  pointwise

theorem h_eq (d : Fin 1280) : RefArrays.h m c (ix2 0 d) = a3 m c (ix1 d) := by
  unfold RefArrays.h a3
  entry_read
  pointwise

end Cert.EntryReference
-- ==== Proof.Equation.lean ====
/-
  The kernel's five arrays are the reference's, for the same arguments.
-/
module

public import proofs.«01_k».proof.Proof.EntryKernel
public import proofs.«01_k».proof.Proof.EntryReference

@[expose] public section

noncomputable section

namespace Cert.Equation

open Idealize.ShloMosaic Idealize.ShloMosaic.TcCoe Cert.Spec Cert.Whole

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)
  (e0 : EntryReference.a0 m' c = EntryKernel.a0 m c) (e1 : EntryReference.a1 m' c = EntryKernel.a1 m c)
  (e2 : EntryReference.a2 m' c = EntryKernel.a2 m c) (e3 : EntryReference.a3 m' c = EntryKernel.a3 m c)

include e0 in
theorem X_eq : RefBlock.X (RefArrays.x m' c) = Arrays.X m c := by
  funext r k
  rw [RefBlock.X, EntryReference.x_eq, e0, EntryKernel.X_eq]

include e1 in
theorem wk_eq : RefBlock.wk (RefArrays.w m' c) = Arrays.Wk m c := by
  funext k d
  rw [RefBlock.wk, EntryReference.w_eq, e1, EntryKernel.Wk_eq]

include e1 in
theorem wv_eq : RefBlock.wv (RefArrays.w m' c) = Arrays.Wv m c := by
  funext k d
  rw [RefBlock.wv, EntryReference.w_eq, e1, EntryKernel.Wv_eq]

include e1 in
theorem wq_eq : RefBlock.wq (RefArrays.w m' c) = Arrays.Wq m c := by
  funext k d
  rw [RefBlock.wq, EntryReference.w_eq, e1, EntryKernel.Wq_eq]

include e2 in
theorem sk_eq : RefBlock.sk (RefArrays.s m' c) = Arrays.sk m c := by
  funext d
  rw [RefBlock.sk, EntryReference.s_eq, e2, EntryKernel.sk_eq]

include e2 in
theorem sv_eq : RefBlock.sv (RefArrays.s m' c) = Arrays.sv m c := by
  funext d
  rw [RefBlock.sv, EntryReference.s_eq, e2, EntryKernel.sv_eq]

include e2 e3 in
theorem sq_eq : (fun (d : Fin 1280) (_ : Fin 128) => (RefBlock.sq (RefArrays.s m' c) d * RefArrays.h m' c (ix2 0 d) : EReal))
    = Arrays.sq m c := by
  funext d l
  rw [RefBlock.sq, EntryReference.s_eq, EntryReference.h_eq, e2, e3, EntryKernel.sq_eq]

include e0 in
theorem uc : RefArrays.G4 m' c = Arrays.G7 m c := by
  unfold RefArrays.G4 Arrays.G7
  rw [X_eq m m' c e0]

include e0 in
theorem us : RefArrays.G5 m' c = Arrays.G8 m c := by
  unfold RefArrays.G5 Arrays.G8
  rw [X_eq m m' c e0]

include e0 e1 e2 in
theorem zc : RefArrays.G6 m' c = Arrays.G9 m c := by
  unfold RefArrays.G6 Arrays.G9
  rw [X_eq m m' c e0, wk_eq m m' c e1, wv_eq m m' c e1, sk_eq m m' c e2, sv_eq m m' c e2]

include e0 e1 e2 in
theorem zs : RefArrays.G7 m' c = Arrays.G10 m c := by
  unfold RefArrays.G7 Arrays.G10
  rw [X_eq m m' c e0, wk_eq m m' c e1, wv_eq m m' c e1, sk_eq m m' c e2, sv_eq m m' c e2]

include e0 e1 e2 e3 in
theorem q : RefArrays.G8 m' c = Arrays.G12 m c := by
  unfold RefArrays.G8 Arrays.G12
  rw [X_eq m m' c e0, wq_eq m m' c e1, sq_eq m m' c e2 e3]

end Cert.Equation
-- ==== Proof.ConvTrip.lean ====
/-
  One trip of the loop over channel pairs of the convolution kernel, over any contents of its buffers: it runs, it leaves the
  words and the filter words it reads as they were, and it leaves something in the three scratch buffers.
-/
module

public import proofs.«01_k».proof.Proof.Gen.Conv.Loops

@[expose] public section

set_option maxRecDepth 16384

noncomputable section

namespace Cert.Conv.Hand

open Cert.Conv Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row of the scratch for the products that a trip's access starts at, and its half, in closed form. -/
theorem off12_eq (i : grid0.Coords) (k : Fin k0_t1_loop.trips) (a b : ℕ) :
    k0_off12 i k (BitVec.ofNat 32 a) (BitVec.ofNat 32 b)
      = ![(i 0).val % 2, (a + 16 * (i 1).val + 2 * k.val + b) % 4294967296, 0] := by
  have h0 : ∀ i : grid0.Coords, k0_off12 i ⟨0, by decide⟩ 0#32 0#32 0 = (i 0).val % 2 := by decide +kernel
  funext x
  match x with
  | 0 => exact h0 i
  | 1 =>
    show BitVec.toNat (BitVec.ofNat 32 a + BitVec.ofNat 32 (i 1).val * 16#32 + 2#32 * (0#32 + BitVec.ofNat 32 k.val * 1#32)
      + BitVec.ofNat 32 b) = (a + 16 * (i 1).val + 2 * k.val + b) % 4294967296
    simp only [BitVec.toNat_add, BitVec.toNat_mul, BitVec.toNat_ofNat]
    omega
  | 2 => rfl

instance closedOff12 (i : grid0.Coords) (k : Fin k0_t1_loop.trips) (a b : ℕ) :
    ClosedOff (k0_off12 i k (BitVec.ofNat 32 a) (BitVec.ofNat 32 b)) :=
  ⟨![(i 0).val % 2, (a + 16 * (i 1).val + 2 * k.val + b) % 4294967296, 0], off12_eq i k a b⟩

/-- What a trip holds: the words and the filter words at their contents, the three scratch buffers at any. -/
abbrev TripRes (c : Dev nD) (arg2 : Memref sig .tc .vmem S1x2x960x128 .i32) (arg3 : Memref sig .tc .vmem S9x16x128 .i32)
    (arg6 : Memref sig .tc .vmem S2x31200x128 .f32) (arg7 : Memref sig .tc .vmem S2x152x256 .f32)
    (arg8 : Memref sig .tc .vmem S2x352x128 .i32) (X2 : BufTy.Contents (Elt F) arg2.view.ty)
    (X3 : BufTy.Contents (Elt F) arg3.view.ty) : sProp 𝕄 :=
  iprop((arg2.view.loc (c : Thread nD τ) ↦[arg2.view.set]{fullShare} X2)
    ∗ (arg3.view.loc (c : Thread nD τ) ↦[arg3.view.set]{fullShare} X3)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f))

set_option warn.classDefReducibility false in
set_option maxHeartbeats 0 in
/-- The loop over channel pairs by the invariant `TripRes`. -/
@[sl_loop] def loopPairs (𝒱 : Variants) (c : Dev nD) (bd : Option 𝒱.V) (E : Set ℕ) (i : grid0.Coords) (arg2 : Memref sig .tc .vmem S1x2x960x128 .i32) (harg2 : arg2.IsWhole)
    (arg3 : Memref sig .tc .vmem S9x16x128 .i32) (harg3 : arg3.IsWhole) (arg4 : Memref sig .tc .vmem S15x2x128x128 .f32)
    (harg4 : arg4.IsWhole) (arg5 : Memref sig .tc .vmem S3840x128 .bf16) (harg5 : arg5.IsWhole)
    (arg6 : Memref sig .tc .vmem S2x31200x128 .f32) (harg6 : arg6.IsWhole) (arg7 : Memref sig .tc .vmem S2x152x256 .f32)
    (harg7 : arg7.IsWhole) (arg8 : Memref sig .tc .vmem S2x352x128 .i32) (harg8 : arg8.IsWhole)
    (arg0 : BitVec 32) (arg1 : BitVec 32) (k0_h2 : k0_cond2 i = 1#1)
    (X2 : BufTy.Contents (Elt F) arg2.view.ty) (X3 : BufTy.Contents (Elt F) arg3.view.ty) :
    LoopInvTy_k0_t1 (F := F) Unit ℕ (UR sig nD τ) ℕ 𝒱 c bd E i arg2 harg2 arg3 harg3 arg4 harg4 arg5 harg5 arg6 harg6 arg7 harg7
      arg8 harg8 arg0 arg1 k0_h2 where
  inv _ _ := TripRes c arg2 arg3 arg6 arg7 arg8 X2 X3
  step k acc := by
    have hk : k.val < 8 := Nat.lt_of_lt_of_le k.isLt k0_t1_abs.2.1
    have hi : (i 1).val < 8 := (i 1).isLt
    unfold k0_t1_body
    iintro ⟨H2, H3, ⟨%f6, H6⟩, ⟨%f7, H7⟩, ⟨%f8, H8⟩⟩
    sl_exec_parts
    sl_step
    isplitl [H2]; · iexact H2
    isplitl [H3]; · iexact H3
    isplitl [H6]; · iexists _; iexact H6
    isplitl [H7]; · iexists _; iexact H7
    iexists _; iexact H8

end Cert.Conv.Hand

end
-- ==== Proof.ConvFrame.lean ====
/-
  The frame of the convolution kernel. At every grid point the body finds its words, its filter words and the block of q, and
  leaves them as they were; the three scratch buffers are owned at some contents between the points, and nothing is said of the
  block of the result. So every execution ends, and the three argument arrays are unchanged.
-/
module

public import proofs.«01_k».proof.Proof.ConvTrip
public import proofs.«01_k».proof.Proof.Gen.Conv.Frame
public import Idealize.ShloMosaic.Lib.Pipeline.Frame

@[expose] public section

set_option maxRecDepth 16384

noncomputable section

namespace Cert.Conv.Hand

open Cert.Conv Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole. -/
abbrev convM : Memref sig .tc .vmem S2x31200x128 .f32 := Memref.whole cc0_scratch0
abbrev lhsM : Memref sig .tc .vmem S2x152x256 .f32 := Memref.whole cc0_scratch1
abbrev toepM : Memref sig .tc .vmem S2x352x128 .i32 := Memref.whole cc0_scratch2

/-- The invariant between the points: the three scratch buffers at some contents, the generator register at some state. -/
theorem PhiA0_eq (c : Dev nD) :
    (Pipeline.ΦA spec0 c : sProp 𝕄)
      = iprop(iprop((∃ d, owns (c : Thread nD τ) convM fullShare d) ∗ (∃ d, owns (c : Thread nD τ) lhsM fullShare d)
          ∗ (∃ d, owns (c : Thread nD τ) toepM fullShare d)) ∗ (∃ r, prngReg c r)) := by
  unfold Pipeline.ΦA
  rw [scopedRest0_eq]; simp only [convM, lhsM, toepM, owns_whole]; try rfl

set_option maxHeartbeats 0 in
/-- The body's triple: from its inputs at `X2`, `X3`, `X4` and the other buffers at anything, the kernel runs to its return and
    hands back the inputs as they were and the other buffers at something. -/
theorem kernelRun (c : Dev nD) (i : grid0.Coords) (arg2 : Memref sig .tc .vmem S1x2x960x128 .i32) (harg2 : arg2.IsWhole)
    (arg3 : Memref sig .tc .vmem S9x16x128 .i32) (harg3 : arg3.IsWhole) (arg4 : Memref sig .tc .vmem S15x2x128x128 .f32)
    (harg4 : arg4.IsWhole) (arg5 : Memref sig .tc .vmem S3840x128 .bf16) (harg5 : arg5.IsWhole)
    (X2 : S1x2x960x128.Idx → Elt F .i32) (X3 : S9x16x128.Idx → Elt F .i32) (X4 : S15x2x128x128.Idx → Elt F .f32)
    (K : PUnit → sProp 𝕄) :
    iprop(owns (c : Thread nD τ) arg2 fullShare X2 ∗ owns (c : Thread nD τ) arg3 fullShare X3
        ∗ owns (c : Thread nD τ) arg4 fullShare X4 ∗ (∃ d, owns (c : Thread nD τ) arg5 fullShare d)
        ∗ (∃ d, owns (c : Thread nD τ) convM fullShare d) ∗ (∃ d, owns (c : Thread nD τ) lhsM fullShare d)
        ∗ (∃ d, owns (c : Thread nD τ) toepM fullShare d)
        ∗ (iprop(owns (c : Thread nD τ) arg2 fullShare X2 ∗ owns (c : Thread nD τ) arg3 fullShare X3
              ∗ owns (c : Thread nD τ) arg4 fullShare X4 ∗ (∃ d, owns (c : Thread nD τ) arg5 fullShare d)
              ∗ (∃ d, owns (c : Thread nD τ) convM fullShare d) ∗ (∃ d, owns (c : Thread nD τ) lhsM fullShare d)
              ∗ (∃ d, owns (c : Thread nD τ) toepM fullShare d)) -∗ K ⟨⟩))
      ⊢ wp frame (wpE (defs₀ (F := F)) Variants.none c none) Set.univ
          (cc0_conv i arg2 harg2 arg3 harg3 arg4 harg4 arg5 harg5 convM (Memref.isWhole_whole _) lhsM (Memref.isWhole_whole _)
            toepM (Memref.isWhole_whole _)) K := by
  by_cases h1 : Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 <;>
  by_cases h2 : k0_cond2 i = 1#1 <;>
  by_cases h3 : k0_cond3 i = 1#1 <;>
  ( simp only [cc0_conv_eq_skeleton]; unfold cc0_conv_skel
    unfold owns
    iintro ⟨⟨%f2, %e2, H2⟩, ⟨%f3, %e3, H3⟩, ⟨%f4, %e4, H4⟩, ⟨%d5, %f5, -, H5⟩, ⟨%d6, %f6, -, H6⟩, ⟨%d7, %f7, -, H7⟩,
      ⟨%d8, %f8, -, H8⟩, Hk⟩
    sl_exec (disch := assumption)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    iexists _, _; isplitr; swap; · iexact H8
    ipureintro; rfl )

/-! ## The proof data -/

/-- Of the four windows the last, the result's, is not described. -/
def forgets0 : Fin 4 → Bool := fun w => w = 3

/-- The proof data: the arrays as the region finds them, each input's block left in place. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (after_0 m c), before0_1_of m (dats m 0 c) (A_eq m c 1) (after_1 m c),
    before0_2_of m (dats m 0 c) (A_eq m c 2) (after_2 m c)]
  rw [after_0, after_1, after_2]
  iintro ⟨⟨⟨H6, H7, H8⟩, Hg⟩, HO, ⟨%d0, H0⟩, ⟨%d1, H1⟩, ⟨%d2, H2⟩, H3⟩
  iapply (kernelRun c (grid0.coords t) (st0_0 t) _ (st0_1 t) _ (st0_2 t) _ (st0_3 t) _ (iblk m c 0 t) (iblk m c 1 t) (iblk m c 2 t) _)
  isplitl [H0]; · iexact H0
  isplitl [H1]; · iexact H1
  isplitl [H2]; · iexact H2
  isplitl [H3]; · iexact H3
  isplitl [H6]; · iexact H6
  isplitl [H7]; · iexact H7
  isplitl [H8]; · iexact H8
  iintro ⟨H0, H1, H2, H3, H6, H7, H8⟩
  isplitl [H6 H7 H8 Hg]
  · isplitl [H6 H7 H8]
    · isplitl [H6]; · iexact H6
      isplitl [H7]; · iexact H7
      iexact H8
    iexact Hg
  isplitl [HO]; · iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: it ends, with every window's array but the result's described and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the run ends with the three arguments unchanged and every counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ?_) (run_main m ρ)
  obtain ⟨h, hs⟩ := h
  refine ⟨fun c => ⟨?_, ?_, ?_⟩, hs⟩
  · exact ((Pipeline.RDat.FramePost.arr_in h c 0 rfl).trans (A_eq m c 0)).trans (V_main_arg0 m c)
  · exact ((h c).2 main_arg1 (Pipeline.mem_restRefs_of main_arg1 (by decide) (by decide))).trans (V_main_arg1 m c)
  · exact ((Pipeline.RDat.FramePost.arr_in h c 2 rfl).trans (A_eq m c 2)).trans (V_main_arg2 m c)

end Cert.Conv.Hand

end
-- ==== Proof.ConvIdealTrip.lean ====
/-
  One trip of the loop over channel pairs of the convolution kernel, over any contents of its buffers: it runs, it leaves the
  words and the filter words it reads as they were, and it leaves something in the three scratch buffers.
-/
module

public import proofs.«01_k».proof.Proof.Gen.ConvIdeal.Loops

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row of the scratch for the products that a trip's access starts at, and its half, in closed form. -/
theorem off12_eq (i : grid0.Coords) (k : Fin k0_t1_loop.trips) (a b : ℕ) :
    k0_off12 i k (BitVec.ofNat 32 a) (BitVec.ofNat 32 b)
      = ![(i 0).val % 2, (a + 16 * (i 1).val + 2 * k.val + b) % 4294967296, 0] := by
  have h0 : ∀ i : grid0.Coords, k0_off12 i ⟨0, by decide⟩ 0#32 0#32 0 = (i 0).val % 2 := by decide +kernel
  funext x
  match x with
  | 0 => exact h0 i
  | 1 =>
    show BitVec.toNat (BitVec.ofNat 32 a + BitVec.ofNat 32 (i 1).val * 16#32 + 2#32 * (0#32 + BitVec.ofNat 32 k.val * 1#32)
      + BitVec.ofNat 32 b) = (a + 16 * (i 1).val + 2 * k.val + b) % 4294967296
    simp only [BitVec.toNat_add, BitVec.toNat_mul, BitVec.toNat_ofNat]
    omega
  | 2 => rfl

instance closedOff12 (i : grid0.Coords) (k : Fin k0_t1_loop.trips) (a b : ℕ) :
    ClosedOff (k0_off12 i k (BitVec.ofNat 32 a) (BitVec.ofNat 32 b)) :=
  ⟨![(i 0).val % 2, (a + 16 * (i 1).val + 2 * k.val + b) % 4294967296, 0], off12_eq i k a b⟩

/-- What a trip holds: the words and the filter words at their contents, the three scratch buffers at any. -/
abbrev TripRes (c : Dev nD) (arg2 : Memref sig .tc .vmem S1x2x960x128 .i32) (arg3 : Memref sig .tc .vmem S9x16x128 .i32)
    (arg6 : Memref sig .tc .vmem S2x31200x128 .f32) (arg7 : Memref sig .tc .vmem S2x152x256 .f32)
    (arg8 : Memref sig .tc .vmem S2x352x128 .i32) (X2 : BufTy.Contents (Elt F) arg2.view.ty)
    (X3 : BufTy.Contents (Elt F) arg3.view.ty) : sProp 𝕄 :=
  iprop((arg2.view.loc (c : Thread nD τ) ↦[arg2.view.set]{fullShare} X2)
    ∗ (arg3.view.loc (c : Thread nD τ) ↦[arg3.view.set]{fullShare} X3)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f))

set_option warn.classDefReducibility false in
set_option maxHeartbeats 0 in
/-- The loop over channel pairs by the invariant `TripRes`. -/
@[sl_loop] def loopPairs (𝒱 : Variants) (c : Dev nD) (bd : Option 𝒱.V) (E : Set ℕ) (i : grid0.Coords) (arg2 : Memref sig .tc .vmem S1x2x960x128 .i32) (harg2 : arg2.IsWhole)
    (arg3 : Memref sig .tc .vmem S9x16x128 .i32) (harg3 : arg3.IsWhole) (arg4 : Memref sig .tc .vmem S15x2x128x128 .f32)
    (harg4 : arg4.IsWhole) (arg5 : Memref sig .tc .vmem S3840x128 .bf16) (harg5 : arg5.IsWhole)
    (arg6 : Memref sig .tc .vmem S2x31200x128 .f32) (harg6 : arg6.IsWhole) (arg7 : Memref sig .tc .vmem S2x152x256 .f32)
    (harg7 : arg7.IsWhole) (arg8 : Memref sig .tc .vmem S2x352x128 .i32) (harg8 : arg8.IsWhole)
    (arg0 : BitVec 32) (arg1 : BitVec 32) (k0_h2 : k0_cond2 i = 1#1)
    (X2 : BufTy.Contents (Elt F) arg2.view.ty) (X3 : BufTy.Contents (Elt F) arg3.view.ty) :
    LoopInvTy_k0_t1 (F := F) Unit ℕ (UR sig nD τ) ℕ 𝒱 c bd E i arg2 harg2 arg3 harg3 arg4 harg4 arg5 harg5 arg6 harg6 arg7 harg7
      arg8 harg8 arg0 arg1 k0_h2 where
  inv _ _ := TripRes c arg2 arg3 arg6 arg7 arg8 X2 X3
  step k acc := by
    have hk : k.val < 8 := Nat.lt_of_lt_of_le k.isLt k0_t1_abs.2.1
    have hi : (i 1).val < 8 := (i 1).isLt
    unfold k0_t1_body
    iintro ⟨H2, H3, ⟨%f6, H6⟩, ⟨%f7, H7⟩, ⟨%f8, H8⟩⟩
    sl_exec_parts
    sl_step
    isplitl [H2]; · iexact H2
    isplitl [H3]; · iexact H3
    isplitl [H6]; · iexists _; iexact H6
    isplitl [H7]; · iexists _; iexact H7
    iexists _; iexact H8

end Cert.ConvIdeal.Hand

end
-- ==== Proof.ConvIdealFrame.lean ====
/-
  The frame of the convolution kernel. At every grid point the body finds its words, its filter words and the block of q, and
  leaves them as they were; the three scratch buffers are owned at some contents between the points, and nothing is said of the
  block of the result. So every execution ends, and the three argument arrays are unchanged.
-/
module

public import proofs.«01_k».proof.Proof.ConvIdealTrip
public import proofs.«01_k».proof.Proof.Gen.ConvIdeal.Frame
public import Idealize.ShloMosaic.Lib.Pipeline.Frame

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole. -/
abbrev convM : Memref sig .tc .vmem S2x31200x128 .f32 := Memref.whole cc0_scratch0
abbrev lhsM : Memref sig .tc .vmem S2x152x256 .f32 := Memref.whole cc0_scratch1
abbrev toepM : Memref sig .tc .vmem S2x352x128 .i32 := Memref.whole cc0_scratch2

/-- The invariant between the points: the three scratch buffers at some contents, the generator register at some state. -/
theorem PhiA0_eq (c : Dev nD) :
    (Pipeline.ΦA spec0 c : sProp 𝕄)
      = iprop(iprop((∃ d, owns (c : Thread nD τ) convM fullShare d) ∗ (∃ d, owns (c : Thread nD τ) lhsM fullShare d)
          ∗ (∃ d, owns (c : Thread nD τ) toepM fullShare d)) ∗ (∃ r, prngReg c r)) := by
  unfold Pipeline.ΦA
  rw [scopedRest0_eq]; simp only [convM, lhsM, toepM, owns_whole]; try rfl

set_option maxHeartbeats 0 in
/-- The body's triple: from its inputs at `X2`, `X3`, `X4` and the other buffers at anything, the kernel runs to its return and
    hands back the inputs as they were and the other buffers at something. -/
theorem kernelRun (c : Dev nD) (i : grid0.Coords) (arg2 : Memref sig .tc .vmem S1x2x960x128 .i32) (harg2 : arg2.IsWhole)
    (arg3 : Memref sig .tc .vmem S9x16x128 .i32) (harg3 : arg3.IsWhole) (arg4 : Memref sig .tc .vmem S15x2x128x128 .f32)
    (harg4 : arg4.IsWhole) (arg5 : Memref sig .tc .vmem S3840x128 .bf16) (harg5 : arg5.IsWhole)
    (X2 : S1x2x960x128.Idx → Elt F .i32) (X3 : S9x16x128.Idx → Elt F .i32) (X4 : S15x2x128x128.Idx → Elt F .f32)
    (K : PUnit → sProp 𝕄) :
    iprop(owns (c : Thread nD τ) arg2 fullShare X2 ∗ owns (c : Thread nD τ) arg3 fullShare X3
        ∗ owns (c : Thread nD τ) arg4 fullShare X4 ∗ (∃ d, owns (c : Thread nD τ) arg5 fullShare d)
        ∗ (∃ d, owns (c : Thread nD τ) convM fullShare d) ∗ (∃ d, owns (c : Thread nD τ) lhsM fullShare d)
        ∗ (∃ d, owns (c : Thread nD τ) toepM fullShare d)
        ∗ (iprop(owns (c : Thread nD τ) arg2 fullShare X2 ∗ owns (c : Thread nD τ) arg3 fullShare X3
              ∗ owns (c : Thread nD τ) arg4 fullShare X4 ∗ (∃ d, owns (c : Thread nD τ) arg5 fullShare d)
              ∗ (∃ d, owns (c : Thread nD τ) convM fullShare d) ∗ (∃ d, owns (c : Thread nD τ) lhsM fullShare d)
              ∗ (∃ d, owns (c : Thread nD τ) toepM fullShare d)) -∗ K ⟨⟩))
      ⊢ wp frame (wpE (defs₀ (F := F)) Variants.none c none) Set.univ
          (cc0_conv i arg2 harg2 arg3 harg3 arg4 harg4 arg5 harg5 convM (Memref.isWhole_whole _) lhsM (Memref.isWhole_whole _)
            toepM (Memref.isWhole_whole _)) K := by
  by_cases h1 : Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 <;>
  by_cases h2 : k0_cond2 i = 1#1 <;>
  by_cases h3 : k0_cond3 i = 1#1 <;>
  ( simp only [cc0_conv_eq_skeleton]; unfold cc0_conv_skel
    unfold owns
    iintro ⟨⟨%f2, %e2, H2⟩, ⟨%f3, %e3, H3⟩, ⟨%f4, %e4, H4⟩, ⟨%d5, %f5, -, H5⟩, ⟨%d6, %f6, -, H6⟩, ⟨%d7, %f7, -, H7⟩,
      ⟨%d8, %f8, -, H8⟩, Hk⟩
    sl_exec (disch := assumption)
    sl_step
    iapply Hk
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    iexists _, _; isplitr; swap; · iexact H8
    ipureintro; rfl )

/-! ## The proof data -/

/-- Of the four windows the last, the result's, is not described. -/
def forgets0 : Fin 4 → Bool := fun w => w = 3

/-- The proof data: the arrays as the region finds them, each input's block left in place. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (after_0 m c), before0_1_of m (dats m 0 c) (A_eq m c 1) (after_1 m c),
    before0_2_of m (dats m 0 c) (A_eq m c 2) (after_2 m c)]
  rw [after_0, after_1, after_2]
  iintro ⟨⟨⟨H6, H7, H8⟩, Hg⟩, HO, ⟨%d0, H0⟩, ⟨%d1, H1⟩, ⟨%d2, H2⟩, H3⟩
  iapply (kernelRun c (grid0.coords t) (st0_0 t) _ (st0_1 t) _ (st0_2 t) _ (st0_3 t) _ (iblk m c 0 t) (iblk m c 1 t) (iblk m c 2 t) _)
  isplitl [H0]; · iexact H0
  isplitl [H1]; · iexact H1
  isplitl [H2]; · iexact H2
  isplitl [H3]; · iexact H3
  isplitl [H6]; · iexact H6
  isplitl [H7]; · iexact H7
  isplitl [H8]; · iexact H8
  iintro ⟨H0, H1, H2, H3, H6, H7, H8⟩
  isplitl [H6 H7 H8 Hg]
  · isplitl [H6 H7 H8]
    · isplitl [H6]; · iexact H6
      isplitl [H7]; · iexact H7
      iexact H8
    iexact Hg
  isplitl [HO]; · iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: it ends, with every window's array but the result's described and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the run ends with the three arguments unchanged and every counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ?_) (run_main m ρ)
  obtain ⟨h, hs⟩ := h
  refine ⟨fun c => ⟨?_, ?_, ?_⟩, hs⟩
  · exact ((Pipeline.RDat.FramePost.arr_in h c 0 rfl).trans (A_eq m c 0)).trans (V_main_arg0 m c)
  · exact ((h c).2 main_arg1 (Pipeline.mem_restRefs_of main_arg1 (by decide) (by decide))).trans (V_main_arg1 m c)
  · exact ((Pipeline.RDat.FramePost.arr_in h c 2 rfl).trans (A_eq m c 2)).trans (V_main_arg2 m c)

end Cert.ConvIdeal.Hand

end
-- ==== Proof.lean ====
/-
  The certificate of `Cert.Claim`: the five frames, the preservation of the rewritten words, and the equality of the
  projection kernel's five results with the reference's on the extended reals.
-/
module

public import proofs.«01_k».proof.Defs
public import proofs.«01_k».proof.Proof.Equation
public import proofs.«01_k».proof.Proof.ConvFrame
public import proofs.«01_k».proof.Proof.ConvIdealFrame
public import proofs.«01_k».proof.Proof.Gen.Kernel.Frame
public import proofs.«01_k».proof.Proof.Gen.KernelIdeal.Value
public import proofs.«01_k».proof.Proof.Gen.KernelIdeal.Frame
public import proofs.«01_k».proof.Proof.Gen.ReferenceIdeal.Frame
public import Idealize.ShloMosaic.Lib.Bf16Pair
public import Idealize.ShloMosaic.Lib.Bf16PairInverse

@[expose] public section

open Idealize.ShloMosaic Idealize.ShloMosaic.TcCoe Idealize.SL.Sem

/-- Both programs run, and leave the same five arrays: `Cert.Equation` on the arrays their runs leave. -/
theorem Cert.Proof.algebraic :
    Cert.algebraic_KernelIdeal_ReferenceIdeal (hKernelIdeal := Cert.KernelIdeal.Gen.facts)
      (hReferenceIdeal := Cert.ReferenceIdeal.Gen.facts) := by
  intro m g m' g' _ hargs
  refine ⟨fun c => Cert.Arrays.G7 m c, fun c => Cert.Arrays.G8 m c, fun c => Cert.Arrays.G9 m c,
    fun c => Cert.Arrays.G10 m c, fun c => Cert.Arrays.G12 m c, ?_, ?_⟩
  · refine (θ_run Cert.KernelIdeal.defs _ _).mono (fun r h c => ?_) (Cert.KernelIdeal.Value.run_blocks m g)
    obtain ⟨h7, h8, h9, h10, -, h12, k0, k1, k2, k3⟩ := h c
    exact ⟨h7.trans (Cert.Arrays.final7 m c), h8.trans (Cert.Arrays.final8 m c), h9.trans (Cert.Arrays.final9 m c),
      h10.trans (Cert.Arrays.final10 m c), h12.trans (Cert.Arrays.final12 m c), k0, k1, k2, k3⟩
  · refine (θ_run Cert.ReferenceIdeal.defs _ _).mono (fun r h c => ?_) (Cert.RefRun.run_blocks m' g')
    obtain ⟨h4, h5, h6, h7, h8, k0, k1, k2, k3⟩ := h c
    obtain ⟨e0, e1, e2, e3⟩ := hargs c
    exact ⟨h4.trans ((Cert.RefArrays.final4 m' c).trans (Cert.Equation.uc m m' c e0)),
      h5.trans ((Cert.RefArrays.final5 m' c).trans (Cert.Equation.us m m' c e0)),
      h6.trans ((Cert.RefArrays.final6 m' c).trans (Cert.Equation.zc m m' c e0 e1 e2)),
      h7.trans ((Cert.RefArrays.final7 m' c).trans (Cert.Equation.zs m m' c e0 e1 e2)),
      h8.trans ((Cert.RefArrays.final8 m' c).trans (Cert.Equation.q m m' c e0 e1 e2 e3)), k0, k1, k2, k3⟩

theorem Cert.Proof.claim : Cert.Claim :=
  ⟨Cert.Kernel.Gen.facts, Cert.KernelIdeal.Gen.facts, Cert.ReferenceIdeal.Gen.facts, Cert.Conv.Gen.facts,
    Cert.ConvIdeal.Gen.facts, fun m ρ _ => Cert.Kernel.Gen.frame m ρ, fun m ρ _ => Cert.KernelIdeal.Gen.frame m ρ,
    fun m ρ _ => Cert.ReferenceIdeal.Gen.frame m ρ, fun m ρ _ => Cert.Conv.Hand.frame m ρ,
    fun m ρ _ => Cert.ConvIdeal.Hand.frame m ρ,
    ⟨IdealRules.bf16_pair.bufferStatement Cert.KernelIdeal.S80x2x960x2x128 Cert.KernelIdeal.S80x2x960x1x128,
     IdealRules.bf16_pair.bufferStatement Cert.KernelIdeal.S80x2x16x2x128 Cert.KernelIdeal.S80x2x16x1x128,
     IdealRules.bf16_pair.statement Cert.KernelIdeal.S128x128 Cert.KernelIdeal.S64x128,
     IdealRules.bf16_pair.statement Cert.KernelIdeal.S8x1x8x2x128 Cert.KernelIdeal.S8x1x8x1x128⟩,
    Cert.Proof.algebraic, trivial⟩
